-- ==== Defs.lean ====
def Pre_Kernel (m : (ℓ : Loc Cert.Kernel.nD Cert.Kernel.τ Cert.Kernel.sig) → Buf (Elt Bits) ℓ) : Prop :=
  True

def Pre_Kernel_nearest_distinct [hPre_nearest_distinct : Cert.Pre_nearest_distinct.Facts] (m : (ℓ : Loc Cert.Kernel.nD Cert.Kernel.τ Cert.Kernel.sig) → Buf (Elt Bits) ℓ) : Prop :=
  ∀ c : Dev Cert.Kernel.nD,
    (Cert.Pre_nearest_distinct.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_nearest_distinct : Cert.Pre_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distinct [hPre_nearest_distinct : Cert.Pre_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_Kernel_pre_nearest_distinct [hKernel : Cert.Kernel.Facts] [hPre_nearest_distinct : Cert.Pre_nearest_distinct.Facts] : Prop :=
  ∀ (m : (ℓ : Loc Cert.Kernel.nD Cert.Kernel.τ Cert.Kernel.sig) → Buf (Elt Bits) ℓ) (g : Dev Cert.Kernel.nD → PrngReg), Pre_Kernel_nearest_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_nearest_distinct [hReferenceIdeal : Cert.ReferenceIdeal.Facts] [hPre_nearest_distinct : Cert.Pre_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "diag" .f32 0x7F70BDC2#32 ⊤
  ∧ IdealRules.named_const.Statement Cert.KernelIdeal.κ "taken" .f32 0x7F52A60A#32 ⊤

def algebraic_KernelIdeal_ReferenceIdeal [hKernelIdeal : Cert.KernelIdeal.Facts] [hReferenceIdeal : Cert.ReferenceIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v34_0)) (v2 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_v34_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_nearest_distinct : Cert.Pre_nearest_distinct.Facts),
    quiescent_Kernel (hKernel := hKernel)
    ∧ quiescent_Kernel_pre_nearest_distinct (hKernel := hKernel) (hPre_nearest_distinct := hPre_nearest_distinct)
    ∧ quiescent_KernelIdeal (hKernelIdeal := hKernelIdeal) (hPre_nearest_distinct := hPre_nearest_distinct)
    ∧ quiescent_ReferenceIdeal (hReferenceIdeal := hReferenceIdeal)
    ∧ quiescent_ReferenceIdeal_pre_nearest_distinct (hReferenceIdeal := hReferenceIdeal) (hPre_nearest_distinct := hPre_nearest_distinct)
    ∧ preserves_Kernel_KernelIdeal
    ∧ algebraic_KernelIdeal_ReferenceIdeal (hKernelIdeal := hKernelIdeal) (hReferenceIdeal := hReferenceIdeal) (hPre_nearest_distinct := hPre_nearest_distinct)
-- ==== Pre_nearest_distinct.lean ====
abbrev S4096x256 : Shape := ⟨2, ![4096, 256]⟩
abbrev S256 : Shape := ⟨1, ![256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1x4096 : Shape := ⟨2, ![1, 4096]⟩
abbrev S4096x4096 : Shape := ⟨2, ![4096, 4096]⟩
abbrev S256x4096 : Shape := ⟨2, ![256, 4096]⟩
abbrev S4096x2 : Shape := ⟨2, ![4096, 2]⟩
abbrev S4096x32 : Shape := ⟨2, ![4096, 32]⟩

class Facts : Prop where
  bcast_S_S4096x256 : S_.BroadcastsInDim S4096x256 (![] : Fin 0 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x256_S256x4096_1_0 : S4096x256.Transposes [1, 0] S256x4096
  bcast_S_S4096x4096 : S_.BroadcastsInDim S4096x4096 (![] : Fin 0 → Fin S4096x4096.rank)
  bcast_S_S4096 : S_.BroadcastsInDim S4096 (![] : Fin 0 → Fin S4096.rank)
  concatenates_S4096x1_S4096x1_S4096x2_d1 : Shape.Concatenates [S4096x1, S4096x1] S4096x2 1
  slices_S4096x4096_S4096x32_0_0 : S4096x4096.Slices ![0, 0] S4096x32
  slices_S4096x4096_S4096x32_0_1 : S4096x4096.Slices ![0, 1] S4096x32
  dot_S4096x256_S256x4096_S4096x4096_1_0_0_1_n_n_wf : DotDims.WF S4096x256 S256x4096 S4096x4096 [1] [0] [0] [1] [] []
  scatter_S4096x4096_S4096x2_S4096_n_01_01_1_wf : ScatterDims.WF S4096x4096 S4096x2 S4096 [] [0, 1] [0, 1] 1

variable [Facts]

variable {F : FTy → Type} [FloatOps F]
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S4096x4096 .f32) : FVec F S4096x4096 .f32 :=
  let v0 : FVec F S4096x4096 .f32 := (fun x => Host.sort S4096x4096 1 comparator_f32_d1 x) arg0
  v0

def fn_part2 {F : FTy → Type} [FloatOps F] (main_v38 : FVec F S4096x4096 .f32) (main_v39 : IVec S4096 32) : IVec S4096x32 1 :=
  let main_c : IVec S_ 32 := constantI S_ 32 0#32
  let main_v40 : IVec S4096 32 := broadcastInDim S4096 ![] bcast_S_S4096 main_c
  let main_v41 : IVec S4096 1 := cmpi .slt main_v39 main_v40
  let main_c_7 : IVec S_ 32 := constantI S_ 32 4096#32
  let main_v42 : IVec S4096 32 := broadcastInDim S4096 ![] bcast_S_S4096 main_c_7
  let main_v43 : IVec S4096 32 := addi main_v39 main_v42
  let main_v44 : IVec S4096 32 := select main_v41 main_v43 main_v39
  let main_c_8 : IVec S_ 32 := constantI S_ 32 0#32
  let main_v45 : IVec S4096 32 := broadcastInDim S4096 ![] bcast_S_S4096 main_c_8
  let main_v46 : IVec S4096 1 := cmpi .slt main_v39 main_v45
  let main_c_9 : IVec S_ 32 := constantI S_ 32 4096#32
  let main_v47 : IVec S4096 32 := broadcastInDim S4096 ![] bcast_S_S4096 main_c_9
  let main_v48 : IVec S4096 32 := addi main_v39 main_v47
  let main_v49 : IVec S4096 32 := select main_v46 main_v48 main_v39
  let main_v50 : IVec S4096x1 32 := broadcastInDim S4096x1 ![0] bcast_S4096_S4096x1_0 main_v44
  let main_v51 : IVec S4096x1 32 := broadcastInDim S4096x1 ![0] bcast_S4096_S4096x1_0 main_v49
  let main_v52 : IVec S4096x2 32 := (fun a b => concatenate S4096x2 1 [⟨S4096x1, a⟩, ⟨S4096x1, b⟩] concatenates_S4096x1_S4096x1_S4096x2_d1) main_v50 main_v51
  let main_cst_10 : FVec F S_ .f32 := constant S_ .f32 0x7F800000#32
  let main_v53 : FVec F S4096 .f32 := broadcastInDim S4096 ![] bcast_S_S4096 main_cst_10
  let main_v54 : FVec F S4096x4096 .f32 := (fun x i u => Host.scatter scatter_S4096x4096_S4096x2_S4096_n_01_01_1 (fun _ b => b) x i u) main_v38 main_v52 main_v53
  let main_v55 : FVec F S4096x4096 .f32 := fn_sort (F := F) main_v54
  let main_v56 : FVec F S4096x32 .f32 := (extractStridedSlice S4096x32 ![0, 0] · slices_S4096x4096_S4096x32_0_0) main_v55
  let main_v57 : FVec F S4096x32 .f32 := (extractStridedSlice S4096x32 ![0, 1] · slices_S4096x4096_S4096x32_0_1) main_v55
  let main_v58 : IVec S4096x32 1 := cmpf .olt main_v56 main_v57
  main_v58

def fn_part1 {F : FTy → Type} [FloatOps F] (main_arg2 : FVec F S256 .f32) (main_arg3 : FVec F S256 .f32) (main_v15 : FVec F S4096x256 .f32) (main_v17 : FVec F S4096x1 .f32) : IVec S4096x32 1 :=
  let main_v18 : FVec F S4096x1 .f32 := Host.sqrt main_v17
  let main_v19 : FVec F S4096x256 .f32 := broadcastInDim S4096x256 ![0, 1] bcast_S4096x1_S4096x256_0_1 main_v18
  let main_v20 : FVec F S4096x256 .f32 := Host.divf main_v15 main_v19
  let main_v21 : FVec F S1x256 .f32 := broadcastInDim S1x256 ![1] bcast_S256_S1x256_1 main_arg2
  let main_v22 : FVec F S4096x256 .f32 := broadcastInDim S4096x256 ![0, 1] bcast_S1x256_S4096x256_0_1 main_v21
  let main_v23 : FVec F S4096x256 .f32 := mulf main_v20 main_v22
  let main_v24 : FVec F S1x256 .f32 := broadcastInDim S1x256 ![1] bcast_S256_S1x256_1 main_arg3
  let main_v25 : FVec F S4096x256 .f32 := broadcastInDim S4096x256 ![0, 1] bcast_S1x256_S4096x256_0_1 main_v24
  let main_v26 : FVec F S4096x256 .f32 := addf main_v23 main_v25
  let main_v27 : FVec F S4096x256 .f32 := mulf main_v26 main_v26
  let main_cst_5 : FVec F S_ .f32 := constant S_ .f32 0x00000000#32
  let main_v28 : FVec F S4096 .f32 := (fun x v => Host.reduceAdd x v reducesTo_S4096x256_S4096_d1 h_S_) main_v27 main_cst_5
  let main_v29 : FVec F S4096x1 .f32 := broadcastInDim S4096x1 ![0] bcast_S4096_S4096x1_0 main_v28
  let main_v30 : FVec F S1x4096 .f32 := broadcastInDim S1x4096 ![1] bcast_S4096_S1x4096_1 main_v28
  let main_v31 : FVec F S4096x4096 .f32 := broadcastInDim S4096x4096 ![0, 1] bcast_S4096x1_S4096x4096_0_1 main_v29
  let main_v32 : FVec F S4096x4096 .f32 := broadcastInDim S4096x4096 ![0, 1] bcast_S1x4096_S4096x4096_0_1 main_v30
  let main_v33 : FVec F S4096x4096 .f32 := addf main_v31 main_v32
  let main_v34 : FVec F S256x4096 .f32 := (transpose S256x4096 [1, 0] · transposes_S4096x256_S256x4096_1_0) main_v26
  let main_v35 : FVec F S4096x4096 .f32 := (fun l r => Host.dotGeneral dot_S4096x256_S256x4096_S4096x4096_1_0_0_1_n_n none l r) main_v26 main_v34
  let main_cst_6 : FVec F S_ .f32 := constant S_ .f32 0x40000000#32
  let main_v36 : FVec F S4096x4096 .f32 := broadcastInDim S4096x4096 ![] bcast_S_S4096x4096 main_cst_6
  let main_v37 : FVec F S4096x4096 .f32 := mulf main_v36 main_v35
  let main_v38 : FVec F S4096x4096 .f32 := subf main_v33 main_v37
  let main_v39 : IVec S4096 32 := iotaInDim S4096 32 0
  fn_part2 (F := F) main_v38 main_v39

def fn {F : FTy → Type} [FloatOps F] (main_arg0 : FVec F S4096x256 .f32) (main_arg1 : FVec F S4096x256 .f32) (main_arg2 : FVec F S256 .f32) (main_arg3 : FVec F S256 .f32) (main_arg4 : FVec F S256x256 .f32) (main_arg5 : FVec F S256 .f32) (main_arg6 : FVec F S256 .f32) (main_arg7 : FVec F S256 .f32) : IVec S4096x32 1 :=
  let main_cst : FVec F S_ .f32 := constant S_ .f32 0x3F800000#32
  let main_v0 : FVec F S4096x256 .f32 := broadcastInDim S4096x256 ![] bcast_S_S4096x256 main_cst
  let main_v1 : FVec F S4096x256 .f32 := mulf main_v0 main_arg1
  let main_v2 : FVec F S4096x256 .f32 := addf main_arg0 main_v1
  let main_cst_0 : FVec F S_ .f32 := constant S_ .f32 0x00000000#32
  let main_v3 : FVec F S4096 .f32 := (fun x v => Host.reduceAdd x v reducesTo_S4096x256_S4096_d1 h_S_) main_v2 main_cst_0
  let main_v4 : FVec F S4096x1 .f32 := broadcastInDim S4096x1 ![0] bcast_S4096_S4096x1_0 main_v3
  let main_cst_1 : FVec F S_ .f32 := constant S_ .f32 0x43800000#32
  let main_v5 : FVec F S4096x1 .f32 := broadcastInDim S4096x1 ![] bcast_S_S4096x1 main_cst_1
  let main_v6 : FVec F S4096x1 .f32 := Host.divf main_v4 main_v5
  let main_v7 : FVec F S4096x256 .f32 := broadcastInDim S4096x256 ![0, 1] bcast_S4096x1_S4096x256_0_1 main_v6
  let main_v8 : FVec F S4096x256 .f32 := subf main_v2 main_v7
  let main_v9 : FVec F S4096x256 .f32 := mulf main_v8 main_v8
  let main_cst_2 : FVec F S_ .f32 := constant S_ .f32 0x00000000#32
  let main_v10 : FVec F S4096 .f32 := (fun x v => Host.reduceAdd x v reducesTo_S4096x256_S4096_d1 h_S_) main_v9 main_cst_2
  let main_v11 : FVec F S4096x1 .f32 := broadcastInDim S4096x1 ![0] bcast_S4096_S4096x1_0 main_v10
  let main_cst_3 : FVec F S_ .f32 := constant S_ .f32 0x43800000#32
  let main_v12 : FVec F S4096x1 .f32 := broadcastInDim S4096x1 ![] bcast_S_S4096x1 main_cst_3
  let main_v13 : FVec F S4096x1 .f32 := Host.divf main_v11 main_v12
  let main_v14 : FVec F S4096x256 .f32 := broadcastInDim S4096x256 ![0, 1] bcast_S4096x1_S4096x256_0_1 main_v6
  let main_v15 : FVec F S4096x256 .f32 := subf main_v2 main_v14
  let main_cst_4 : FVec F S_ .f32 := constant S_ .f32 0x3727C5AC#32
  let main_v16 : FVec F S4096x1 .f32 := broadcastInDim S4096x1 ![] bcast_S_S4096x1 main_cst_4
  let main_v17 : FVec F S4096x1 .f32 := addf main_v13 main_v16
  fn_part1 (F := F) main_arg2 main_arg3 main_v15 main_v17
-- ==== Kernel.lean ====
abbrev S4096x256 : Shape := ⟨2, ![4096, 256]⟩
abbrev S256 : Shape := ⟨1, ![256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1x4096 : Shape := ⟨2, ![1, 4096]⟩
abbrev S4096x4096 : Shape := ⟨2, ![4096, 4096]⟩
abbrev S512x256 : Shape := ⟨2, ![512, 256]⟩
abbrev S512x1 : Shape := ⟨2, ![512, 1]⟩
abbrev S512x4096 : Shape := ⟨2, ![512, 4096]⟩
abbrev S512x128 : Shape := ⟨2, ![512, 128]⟩
abbrev S512 : Shape := ⟨1, ![512]⟩

abbrev nBuf : Space → Nat
  | .hbm => 51
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S1x256, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096, .f32⟩
  | .hbm, ⟨44, _⟩ => ⟨S1x4096, .f32⟩
  | .hbm, ⟨45, _⟩ => ⟨S4096x1, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S4096x4096, .f32⟩
  | .hbm, ⟨50, _⟩ => ⟨S4096x256, .f32⟩
  | .local _ .vmem, ⟨0, _⟩ => ⟨S4096x256, .f32⟩
  | .local _ .vmem, ⟨1, _⟩ => ⟨S512x256, .f32⟩
  | .local _ .vmem, ⟨2, _⟩ => ⟨S512x256, .f32⟩
  | .local _ .vmem, ⟨3, _⟩ => ⟨S1x4096, .f32⟩
  | .local _ .vmem, ⟨4, _⟩ => ⟨S512x1, .f32⟩
  | .local _ .vmem, ⟨5, _⟩ => ⟨S512x1, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x4096, .f32⟩
  | .local _ .vmem, ⟨11, _⟩ => ⟨S512x4096, .f32⟩
  | .local _ .vmem, ⟨12, _⟩ => ⟨S512x256, .f32⟩
  | .local _ .vmem, ⟨13, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v4 : BitVec 32 := Scalar.subi arg0 arg0
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "diag" => some ⊤
  | "taken" => some ⊤
  | _ => none
-- ==== ReferenceIdeal.lean ====
abbrev S4096x256 : Shape := ⟨2, ![4096, 256]⟩
abbrev S256 : Shape := ⟨1, ![256]⟩
abbrev S256x256 : Shape := ⟨2, ![256, 256]⟩
abbrev S_ : Shape := ⟨0, ![]⟩
abbrev S4096 : Shape := ⟨1, ![4096]⟩
abbrev S4096x1 : Shape := ⟨2, ![4096, 1]⟩
abbrev S1x256 : Shape := ⟨2, ![1, 256]⟩
abbrev S1x4096 : Shape := ⟨2, ![1, 4096]⟩
abbrev S4096x4096 : Shape := ⟨2, ![4096, 4096]⟩
abbrev S256x4096 : Shape := ⟨2, ![256, 4096]⟩
abbrev S4096x2 : Shape := ⟨2, ![4096, 2]⟩
abbrev S4096x32 : Shape := ⟨2, ![4096, 32]⟩
abbrev S4096x32x1 : Shape := ⟨3, ![4096, 32, 1]⟩
abbrev S4096x32x2 : Shape := ⟨3, ![4096, 32, 2]⟩

abbrev nBuf : Space → Nat
  | .hbm => 139
  | .vmem => 0
  | .smem => 0
  | _ => 0

abbrev hbmTy0_0 (i : Nat) : BufTy := match i % 128 with
  | 0 => ⟨S4096x256, .f32⟩
  | 1 => ⟨S4096x256, .f32⟩
  | 2 => ⟨S256, .f32⟩
  | 3 => ⟨S256, .f32⟩
  | 4 => ⟨S256x256, .f32⟩
  | 5 => ⟨S256, .f32⟩
  | 6 => ⟨S256, .f32⟩
  | 7 => ⟨S256, .f32⟩
  | 8 => ⟨S_, .f32⟩
  | 9 => ⟨S4096x256, .f32⟩
  | 10 => ⟨S4096x256, .f32⟩
  | 11 => ⟨S4096x256, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x256, .f32⟩
  | 19 => ⟨S4096x256, .f32⟩
  | 20 => ⟨S4096x256, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S4096x256, .f32⟩
  | 28 => ⟨S4096x256, .f32⟩
  | 29 => ⟨S_, .f32⟩
  | 30 => ⟨S4096x1, .f32⟩
  | 31 => ⟨S4096x1, .f32⟩
  | 32 => ⟨S4096x1, .f32⟩
  | 33 => ⟨S4096x256, .f32⟩
  | 34 => ⟨S4096x256, .f32⟩
  | 35 => ⟨S1x256, .f32⟩
  | 36 => ⟨S4096x256, .f32⟩
  | 37 => ⟨S4096x256, .f32⟩
  | 38 => ⟨S1x256, .f32⟩
  | 39 => ⟨S4096x256, .f32⟩
  | 40 => ⟨S4096x256, .f32⟩
  | 41 => ⟨S4096x256, .f32⟩
  | 42 => ⟨S_, .f32⟩
  | 43 => ⟨S4096, .f32⟩
  | 44 => ⟨S4096x1, .f32⟩
  | 45 => ⟨S1x4096, .f32⟩
  | 46 => ⟨S4096x4096, .f32⟩
  | 47 => ⟨S4096x4096, .f32⟩
  | 48 => ⟨S4096x4096, .f32⟩
  | 49 => ⟨S256x4096, .f32⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S4096, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S4096x1, .i32⟩
  | 71 => ⟨S4096x1, .i32⟩
  | 72 => ⟨S4096x2, .i32⟩
  | 73 => ⟨S_, .f32⟩
  | 74 => ⟨S4096, .f32⟩
  | 75 => ⟨S4096x4096, .f32⟩
  | 76 => ⟨S4096x4096, .f32⟩
  | 77 => ⟨S4096x32, .f32⟩
  | 78 => ⟨S4096x32, .i32⟩
  | 79 => ⟨S4096, .i32⟩
  | 80 => ⟨S4096x1, .i32⟩
  | 81 => ⟨S_, .f32⟩
  | 82 => ⟨S4096x4096, .f32⟩
  | 83 => ⟨S_, .i32⟩
  | 84 => ⟨S4096x1, .i32⟩
  | 85 => ⟨S4096x1, .i1⟩
  | 86 => ⟨S_, .i32⟩
  | 87 => ⟨S4096x1, .i32⟩
  | 88 => ⟨S4096x1, .i32⟩
  | 89 => ⟨S4096x1, .i32⟩
  | 90 => ⟨S_, .i32⟩
  | 91 => ⟨S4096x32, .i32⟩
  | 92 => ⟨S4096x32, .i1⟩
  | 93 => ⟨S_, .i32⟩
  | 94 => ⟨S4096x32, .i32⟩
  | 95 => ⟨S4096x32, .i32⟩
  | 96 => ⟨S4096x32, .i32⟩
  | 97 => ⟨S4096x32, .i32⟩
  | 98 => ⟨S4096x32x1, .i32⟩
  | 99 => ⟨S4096x32x1, .i32⟩
  | 100 => ⟨S4096x32x2, .i32⟩
  | 101 => ⟨S_, .f32⟩
  | 102 => ⟨S4096x32, .f32⟩
  | 103 => ⟨S4096x4096, .f32⟩
  | 104 => ⟨S4096x256, .f32⟩
  | 105 => ⟨S256x256, .f32⟩
  | 106 => ⟨S4096x256, .f32⟩
  | 107 => ⟨S1x256, .f32⟩
  | 108 => ⟨S4096x256, .f32⟩
  | 109 => ⟨S4096x256, .f32⟩
  | 110 => ⟨S_, .f32⟩
  | 111 => ⟨S4096, .f32⟩
  | 112 => ⟨S4096x1, .f32⟩
  | 113 => ⟨S_, .f32⟩
  | 114 => ⟨S4096x1, .f32⟩
  | 115 => ⟨S4096x1, .f32⟩
  | 116 => ⟨S4096x256, .f32⟩
  | 117 => ⟨S4096x256, .f32⟩
  | 118 => ⟨S4096x256, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S4096x256, .f32⟩
  | 126 => ⟨S4096x256, .f32⟩
  | 127 => ⟨S_, .f32⟩
  | _ => ⟨S4096x256, .f32⟩

abbrev hbmTy0_1 (i : Nat) : BufTy := match i % 128 with
  | 0 => ⟨S4096x1, .f32⟩
  | 1 => ⟨S4096x1, .f32⟩
  | 2 => ⟨S4096x1, .f32⟩
  | 3 => ⟨S4096x256, .f32⟩
  | 4 => ⟨S4096x256, .f32⟩
  | 5 => ⟨S1x256, .f32⟩
  | 6 => ⟨S4096x256, .f32⟩
  | 7 => ⟨S4096x256, .f32⟩
  | 8 => ⟨S1x256, .f32⟩
  | 9 => ⟨S4096x256, .f32⟩
  | 10 => ⟨S4096x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_values : Ref sig .tc := ⟨.hbm, 77, rfl⟩
abbrev main_indices : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_cst_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== Proof.Rounds.lean ====
/- What the kernel's body does to one block of distances, as a short recursion: the block is cut into 32 slices of 128
   columns, the slices are sorted lane by lane by a network of 191 compare-exchanges, and 32 rounds each shift up the
   lane that holds the least entry. The body writes these steps out one by one; here they are folded back. -/
module

public import proofs.«01_k».proof.Proof.Gen.KernelIdeal.Frame

@[expose] public section

noncomputable section

namespace Cert.KernelIdeal.Rounds

open Cert.KernelIdeal Cert.KernelIdeal.Gen Idealize.ShloMosaic Idealize.ShloMosaic.TcCoe Idealize.SL.Sem

variable {F : FTy → Type} [FloatOps F] [Named F]

/-- One slice of the block: 512 rows of 128 lanes. -/
abbrev Lanes (F : FTy → Type) : Type := FVec F S512x128 .f32

/-- The compare-exchanges of the body's sorting network, in the order it performs them. -/
def pairs : List (ℕ × ℕ) :=
  [(0, 1), (2, 3), (4, 5), (6, 7), (8, 9), (10, 11), (12, 13), (14, 15), (16, 17), (18, 19), (20, 21),
   (22, 23), (24, 25), (26, 27), (28, 29), (30, 31), (0, 2), (1, 3), (4, 6), (5, 7), (8, 10), (9, 11),
   (12, 14), (13, 15), (16, 18), (17, 19), (20, 22), (21, 23), (24, 26), (25, 27), (28, 30), (29, 31),
   (1, 2), (5, 6), (9, 10), (13, 14), (17, 18), (21, 22), (25, 26), (29, 30), (0, 4), (1, 5), (2, 6), (3, 7),
   (8, 12), (9, 13), (10, 14), (11, 15), (16, 20), (17, 21), (18, 22), (19, 23), (24, 28), (25, 29),
   (26, 30), (27, 31), (2, 4), (3, 5), (10, 12), (11, 13), (18, 20), (19, 21), (26, 28), (27, 29), (1, 2),
   (3, 4), (5, 6), (9, 10), (11, 12), (13, 14), (17, 18), (19, 20), (21, 22), (25, 26), (27, 28), (29, 30),
   (0, 8), (1, 9), (2, 10), (3, 11), (4, 12), (5, 13), (6, 14), (7, 15), (16, 24), (17, 25), (18, 26),
   (19, 27), (20, 28), (21, 29), (22, 30), (23, 31), (4, 8), (5, 9), (6, 10), (7, 11), (20, 24), (21, 25),
   (22, 26), (23, 27), (2, 4), (3, 5), (6, 8), (7, 9), (10, 12), (11, 13), (18, 20), (19, 21), (22, 24),
   (23, 25), (26, 28), (27, 29), (1, 2), (3, 4), (5, 6), (7, 8), (9, 10), (11, 12), (13, 14), (17, 18),
   (19, 20), (21, 22), (23, 24), (25, 26), (27, 28), (29, 30), (0, 16), (1, 17), (2, 18), (3, 19), (4, 20),
   (5, 21), (6, 22), (7, 23), (8, 24), (9, 25), (10, 26), (11, 27), (12, 28), (13, 29), (14, 30), (15, 31),
   (8, 16), (9, 17), (10, 18), (11, 19), (12, 20), (13, 21), (14, 22), (15, 23), (4, 8), (5, 9), (6, 10),
   (7, 11), (12, 16), (13, 17), (14, 18), (15, 19), (20, 24), (21, 25), (22, 26), (23, 27), (2, 4), (3, 5),
   (6, 8), (7, 9), (10, 12), (11, 13), (14, 16), (15, 17), (18, 20), (19, 21), (22, 24), (23, 25), (26, 28),
   (27, 29), (1, 2), (3, 4), (5, 6), (7, 8), (9, 10), (11, 12), (13, 14), (15, 16), (17, 18), (19, 20),
   (21, 22), (23, 24), (25, 26), (27, 28), (29, 30)]

/-- One compare-exchange: the lesser value to the first place, the greater to the second. -/
def exchange (p : ℕ × ℕ) (v : ℕ → Lanes F) : ℕ → Lanes F := fun k =>
  bif k.beq p.1 then minimumf (v p.1) (v p.2) else bif k.beq p.2 then maximumf (v p.1) (v p.2) else v k

/-- The values after a list of compare-exchanges. -/
def sortNet (L : List (ℕ × ℕ)) (v : ℕ → Lanes F) : ℕ → Lanes F := L.foldl (fun v p => exchange p v) v

theorem slice_fits (j : Fin 32) : S512x4096.Slices ![0, 128 * j.val] S512x128 := by
  revert j; decide

/-- The block's slice `j`: its columns `128 j … 128 j + 127`. -/
def slice (D : FVec F S512x4096 .f32) (j : Fin 32) : Lanes F :=
  extractStridedSlice S512x128 ![0, 128 * j.val] D (slice_fits j)

/-- The value that marks an emptied place. -/
def emptied : Lanes F := broadcast S512x128 (Named.named κ "taken" 0x7F52A60A#32)

/-- The lane numbers 0 … 127 along each row. -/
def laneIdx : IVec S512x128 32 :=
  extractStridedSlice S512x128 ![0, 0] (iota .tc S512x4096 32 [1] iota_S512x4096_d1_w32) (slice_fits 0)

/-- At each row, whether a lane is the one that holds the row's least value. -/
def leastLane (x : Lanes F) : IVec S512x128 1 :=
  cmpi .eq laneIdx (broadcastTo S512x128 (shapeCast S512x1 (reduceIndex .argMin 1 S512 x reduces_S512x128_S512)
    shapeCasts_S512_S512x1) broadcasts_S512x1_S512x128)

/-- The places of every lane at the start: the sorted slices, and behind them emptied places. -/
def start (D : FVec F S512x4096 .f32) : ℕ → Lanes F := fun k =>
  if h : k < 32 then sortNet pairs (fun j => if h' : j < 32 then slice D ⟨j, h'⟩ else emptied) k else emptied

/-- The places of every lane after `t` rounds: a round shifts up the lane that holds the row's least value. -/
def places (D : FVec F S512x4096 .f32) : ℕ → ℕ → Lanes F
  | 0 => start D
  | t + 1 => fun k => select (leastLane (places D t 0)) (places D t (k + 1)) (places D t k)

/-- The block's part of the graph in slice `j`: 1/32 where a distance lies below what its lane has left, else 0. -/
def chosen (D : FVec F S512x4096 .f32) (j : Fin 32) : Lanes F :=
  select (cmpf .olt (slice D j) (places D 32 0)) (broadcast S512x128 (Scalar.ofBits .f32 0x3D000000#32))
    (broadcast S512x128 (Scalar.ofBits .f32 0x00000000#32))

theorem piece_fits (j : Fin 32) :
    ∀ a : Fin 2, (![0, 128 * j.val] : Fin 2 → ℕ) a + S512x128.size a ≤ S512x4096.size a := by
  revert j; decide

/-- The stores of the 32 slices, the last one first. -/
def stored (D : FVec F S512x4096 .f32) : List (View.Piece (Elt F) S512x4096 .f32) :=
  (List.finRange 32).reverse.map fun j =>
    ⟨Rect.unit (s := S512x4096) ![0, 128 * j.val] S512x128.size (piece_fits j), chosen D j⟩

section Run

variable (c : Dev nD) (i : grid0.Coords) (arg1 : Memref sig .tc .vmem S4096x256 .f32) (harg1 : arg1.IsWhole)
  (arg2 : Memref sig .tc .vmem S512x256 .f32) (harg2 : arg2.IsWhole) (arg3 : Memref sig .tc .vmem S1x4096 .f32)
  (harg3 : arg3.IsWhole) (arg4 : Memref sig .tc .vmem S512x1 .f32) (harg4 : arg4.IsWhole)
  (x0 : Vec F S4096x256 .f32) (x1 : Vec F S512x256 .f32) (x2 : Vec F S1x4096 .f32) (x3 : Vec F S512x1 .f32)

/-- What the body stores into the graph's block is `stored` of its block of distances. -/
theorem stores_eq : kernelRun0_A.sl.H8_32 c i arg1 harg1 arg2 harg2 arg3 harg3 arg4 harg4 x0 x1 x2 x3 =
   stored (kernelRun0_A.sl.r_1 c i arg1 harg1 arg2 harg2 arg3 harg3 arg4 harg4 x0 x1 x2 x3) := by sl_kernel_rfl

end Run

end Cert.KernelIdeal.Rounds
-- ==== Proof.Select.lean ====
/- The selection on one row, as plain mathematics: values spread over lanes, 32 to a lane; every lane sorted; 32 rounds
   that each drop the least value still standing at the front of a lane. What is left at the fronts tells the 32 least
   values of the row from the others. -/
module

public import Mathlib.Data.EReal.Basic
public import Mathlib.Data.Fintype.Card
public import Mathlib.Order.Interval.Finset.Fin

@[expose] public section

noncomputable section

namespace Cert.Select

variable {Λ : Type} [DecidableEq Λ]

/-- How many values of lane `l` lie below `x`. -/
def below (g : Fin 32 → Λ → EReal) (x : EReal) (l : Λ) : ℕ := (Finset.univ.filter fun j => g j l < x).card

/-- `v 0, v 1, …` are the row's least values in order, strictly ascending as far as `v 32`, and `w t` is the one place
    where `v t` stands: the values below `v (t + 1)` are those below `v t` and the value at `w t`. -/
structure Ranked (g : Fin 32 → Λ → EReal) (v : ℕ → EReal) (w : ℕ → Fin 32 × Λ) : Prop where
  first : ∀ j l, v 0 ≤ g j l
  next : ∀ t < 32, ∀ j l, g j l < v (t + 1) ↔ g j l < v t ∨ (j, l) = w t
  fresh : ∀ t < 32, v t ≤ g (w t).1 (w t).2

variable {g : Fin 32 → Λ → EReal} {v : ℕ → EReal} {w : ℕ → Fin 32 × Λ}

/-- Nothing lies below the least value. -/
theorem Ranked.below_zero (h : Ranked g v w) (l : Λ) : below g (v 0) l = 0 := by
  unfold below
  rw [Finset.card_eq_zero, Finset.filter_eq_empty_iff]
  exact fun j _ => not_lt.mpr (h.first j l)

/-- One rank further, the lane of that rank counts one more value. -/
theorem Ranked.below_same (h : Ranked g v w) {t : ℕ} (ht : t < 32) :
    below g (v (t + 1)) (w t).2 = below g (v t) (w t).2 + 1 := by
  unfold below
  have e : (Finset.univ.filter fun j => g j (w t).2 < v (t + 1))
      = insert (w t).1 (Finset.univ.filter fun j => g j (w t).2 < v t) := by
    ext j
    simp only [Finset.mem_filter, Finset.mem_univ, true_and, Finset.mem_insert, h.next t ht, Prod.ext_iff, and_true]
    exact or_comm
  rw [e, Finset.card_insert_of_notMem]
  simp only [Finset.mem_filter, Finset.mem_univ, true_and, not_lt]
  exact h.fresh t ht

/-- … and every other lane counts the same. -/
theorem Ranked.below_other (h : Ranked g v w) {t : ℕ} (ht : t < 32) {l : Λ} (hl : l ≠ (w t).2) :
    below g (v (t + 1)) l = below g (v t) l := by
  unfold below
  congr 1
  ext j
  simp only [Finset.mem_filter, Finset.mem_univ, true_and, h.next t ht, Prod.ext_iff, hl, and_false, or_false]

/-- The places of the lanes, round after round: at the start `P 0` lists each lane's values in ascending order (a place `k`
    holds less than `x` exactly when more than `k` values lie below `x`); a round moves the one lane whose front is least
    one place up. -/
structure Rounds (g : Fin 32 → Λ → EReal) (P : ℕ → ℕ → Λ → EReal) : Prop where
  sorted : ∀ k l x, P 0 k l < x ↔ k < below g x l
  step : ∀ t L, (∀ l, l ≠ L → P t 0 L < P t 0 l) → ∀ k l, P (t + 1) k l = if l = L then P t (k + 1) l else P t k l

variable {P : ℕ → ℕ → Λ → EReal}

/-- After `t` rounds a lane has moved up by the number of its values that lie below rank `t`. -/
theorem Rounds.shifted (hP : Rounds g P) (h : Ranked g v w) :
    ∀ t ≤ 32, ∀ k l, P t k l = P 0 (k + below g (v t) l) l
  | 0, _, k, l => by rw [h.below_zero, Nat.add_zero]
  | t + 1, ht, k, l => by
    have ht' : t < 32 := ht
    have ih := hP.shifted h t ht'.le
    have hL : ∀ l, l ≠ (w t).2 → P t 0 (w t).2 < P t 0 l := by
      intro l hl
      rw [ih, ih, Nat.zero_add, Nat.zero_add]
      refine lt_of_lt_of_le ((hP.sorted _ _ (v (t + 1))).mpr ?_) (not_lt.mp fun hlt => ?_)
      · rw [h.below_same ht']; exact Nat.lt_succ_self _
      · have := (hP.sorted _ _ (v (t + 1))).mp hlt
        rw [h.below_other ht' hl] at this
        exact lt_irrefl _ this
    rw [hP.step t _ hL]
    split
    · next e => subst e; rw [ih, h.below_same ht', Nat.add_right_comm, Nat.add_assoc]
    · next e => rw [ih, h.below_other ht' e]

/-- After the 32 rounds a value lies below the front of its lane exactly when it lies below rank 32: it is one of the 32
    least. -/
theorem Rounds.chosen_iff (hP : Rounds g P) (h : Ranked g v w) (j : Fin 32) (l : Λ) :
    g j l < P 32 0 l ↔ g j l < v 32 := by
  have e : P 32 0 l = P 0 (below g (v 32) l) l := by rw [hP.shifted h 32 le_rfl, Nat.zero_add]
  rw [e]
  constructor
  · intro hlt
    by_contra hge
    rw [not_lt] at hge
    refine lt_irrefl _ ((hP.sorted (below g (v 32) l) l (P 0 (below g (v 32) l) l)).mpr ?_)
    refine Finset.card_lt_card ⟨fun i hi => ?_, fun hsub => ?_⟩
    · simp only [Finset.mem_filter, Finset.mem_univ, true_and] at hi ⊢
      exact hi.trans_le (hge.trans hlt.le)
    · have : j ∈ Finset.univ.filter fun j => g j l < v 32 := hsub (by simpa using hlt)
      simp only [Finset.mem_filter, Finset.mem_univ, true_and] at this
      exact absurd this (not_lt.mpr hge)
  · intro hlt
    refine hlt.trans_le (not_lt.mp fun h' => ?_)
    exact lt_irrefl _ ((hP.sorted _ _ _).mp h')

/-- A monotone rearrangement `f` of a lane's values: its place `k` holds less than `x` exactly when more than `k` of the
    values lie below `x`. -/
theorem sorted_lt_iff {n : ℕ} (f u : Fin n → EReal) (hf : Monotone f) (σ : Equiv.Perm (Fin n)) (hσ : f = u ∘ σ)
    (k : Fin n) (x : EReal) : f k < x ↔ k.val < (Finset.univ.filter fun j => u j < x).card := by
  have hc : (Finset.univ.filter fun j => u j < x).card = (Finset.univ.filter fun j => f j < x).card := by
    refine (Finset.card_bij (fun j _ => σ j) ?_ ?_ ?_).symm
    · intro j hj; simpa [hσ] using hj
    · intro a _ b _ hab; exact σ.injective hab
    · intro b hb; exact ⟨σ.symm b, by simpa [hσ] using hb, by simp⟩
  rw [hc]
  constructor
  · intro hlt
    have hsub : Finset.Iic k ⊆ Finset.univ.filter fun j => f j < x := fun j hj => by
      simp only [Finset.mem_filter, Finset.mem_univ, true_and]
      exact (hf (Finset.mem_Iic.mp hj)).trans_lt hlt
    have := Finset.card_le_card hsub
    rw [Fin.card_Iic] at this
    exact this
  · intro hlt
    by_contra hge
    have hsub : (Finset.univ.filter fun j => f j < x) ⊆ Finset.Iio k := fun j hj => by
      simp only [Finset.mem_filter, Finset.mem_univ, true_and] at hj
      rw [Finset.mem_Iio]
      by_contra hkj
      exact hge ((hf (not_lt.mp hkj)).trans_lt hj)
    have := Finset.card_le_card hsub
    rw [Fin.card_Iio] at this
    exact absurd hlt (not_lt.mpr this)

end Cert.Select
-- ==== Proof.RowRounds.lean ====
/- The recursion of `Rounds`, read at one row of the block at the ideal reading: it is the selection of `Select`. -/
module

public import proofs.«01_k».proof.Proof.Rounds
public import proofs.«01_k».proof.Proof.Select
public import Idealize.ShloMosaic.Lib.SortNet.OddEvenSort
public import Idealize.ShloMosaic.Lib.Pointwise

@[expose] public section

noncomputable section

namespace Cert.KernelIdeal.Rounds

open Cert.KernelIdeal Cert.KernelIdeal.Gen Idealize.ShloMosaic Idealize.ShloMosaic.TcCoe Idealize.SL.Sem
open Idealize.ShloMosaic.SortNet

/-- The compare-exchanges of the body are Batcher's odd-even merge sort of 32 places. -/
theorem pairs_eq : oddEvenPairs 5 = pairs := by decide +kernel

/-- Every compare-exchange takes two different places below 32. -/
theorem pairs_ok : ∀ p ∈ pairs, p.2 < 32 ∧ p.1 < 32 ∧ p.2 ≠ p.1 := by decide +kernel

/-- A list of compare-exchanges, read at one element of the block, is the same network on that element's 32 values; the
    network puts the greater value first, so it is read in the reversed order. -/
theorem sortNet_apply (y : S512x128.Idx) : ∀ (L : List (ℕ × ℕ)), (∀ p ∈ L, p.2 < 32 ∧ p.1 < 32 ∧ p.2 ≠ p.1) →
    ∀ (v : ℕ → Lanes Ideal) (k : Fin 32),
      sortNet L v k.val y = OrderDual.ofDual
        (Network.apply (Network.ofPairs 32 L) (fun j : Fin 32 => OrderDual.toDual (v j.val y : EReal)) k)
  | [], _, _, _ => rfl
  | p :: L, hL, v, k => by
    have hp := hL p (List.mem_cons_self ..)
    have e : Network.ofPairs 32 (p :: L)
        = ⟨⟨p.2, hp.1⟩, ⟨p.1, hp.2.1⟩, fun e => hp.2.2 (Fin.val_eq_of_eq e)⟩ :: Network.ofPairs 32 L := by
      unfold Network.ofPairs
      rw [List.filterMap_cons, dif_pos hp]
    rw [e, Network.apply_cons]
    show sortNet L (exchange p v) k.val y = _
    rw [sortNet_apply y L (fun q hq => hL q (List.mem_cons_of_mem _ hq))]
    congr 2
    funext j
    unfold exchange Cmpx.apply
    dsimp only
    by_cases h1 : j.val = p.1
    · have h2 : j ≠ ⟨p.2, hp.1⟩ := fun h => hp.2.2 ((congrArg Fin.val h).symm.trans h1)
      have h3 : j = ⟨p.1, hp.2.1⟩ := Fin.ext h1
      rw [if_neg h2, if_pos h3, (by simpa using h1 : j.val.beq p.1 = true), cond_true]
      exact congrArg OrderDual.toDual (min_comm (v p.1 y : EReal) (v p.2 y))
    · by_cases h2 : j.val = p.2
      · have h3 : j = ⟨p.2, hp.1⟩ := Fin.ext h2
        rw [if_pos h3, (Bool.eq_false_iff.mpr fun h => h1 (Nat.eq_of_beq_eq_true h)), (by simpa using h2 : j.val.beq p.2 = true), cond_false, cond_true]
        exact congrArg OrderDual.toDual (max_comm (v p.1 y : EReal) (v p.2 y))
      · have h3 : j ≠ ⟨p.2, hp.1⟩ := fun h => h2 (congrArg Fin.val h)
        have h4 : j ≠ ⟨p.1, hp.2.1⟩ := fun h => h1 (congrArg Fin.val h)
        rw [if_neg h3, if_neg h4, (Bool.eq_false_iff.mpr fun h => h1 (Nat.eq_of_beq_eq_true h)), (Bool.eq_false_iff.mpr fun h => h2 (Nat.eq_of_beq_eq_true h)), cond_false, cond_false]

/-- The mark of an emptied place denotes +∞. -/
theorem emptied_apply (y : S512x128.Idx) : emptied (F := Ideal) y = (⊤ : EReal) :=
  IdealRules.named_const.ideal_named_scalar κ "taken" _ _ rfl

/-- A slice read at an element. -/
theorem slice_apply (D : FVec Ideal S512x4096 .f32) (j : Fin 32) (r : Fin 512) (l : Fin 128) :
    slice D j (ix2 r l) = D (ix2 r ⟨128 * j.val + l.val, by omega⟩) := by
  pointwise [slice]

/-- At the start the places of a lane list its 32 distances in ascending order, and +∞ behind them. -/
theorem start_lt_iff (D : FVec Ideal S512x4096 .f32) (r : Fin 512) (k : ℕ) (l : Fin 128) (x : EReal) :
    (start D k (ix2 r l) : EReal) < x
      ↔ k < Cert.Select.below (fun j l => (slice D j (ix2 r l) : EReal)) x l := by
  unfold start
  by_cases h : k < 32
  · rw [dif_pos h, sortNet_apply (ix2 r l) pairs pairs_ok _ ⟨k, h⟩, ← pairs_eq]
    have e : (fun j : Fin 32 => OrderDual.toDual
        (((if h' : j.val < 32 then slice D ⟨j.val, h'⟩ else emptied) (ix2 r l) : EReal)))
        = fun j => OrderDual.toDual (slice D j (ix2 r l) : EReal) := by
      funext j; rw [dif_pos j.isLt]
    rw [e]
    have hs := oddEvenNet_antitone 5 (fun j : Fin (2 ^ 5) => OrderDual.toDual (slice D j (ix2 r l) : EReal))
    obtain ⟨σ, hσ⟩ := Network.exists_perm (oddEvenNet 5)
      (fun j : Fin (2 ^ 5) => OrderDual.toDual (slice D j (ix2 r l) : EReal))
    exact Cert.Select.sorted_lt_iff
      (fun k : Fin 32 => OrderDual.ofDual (Network.apply (oddEvenNet 5)
        (fun j : Fin (2 ^ 5) => OrderDual.toDual (slice D j (ix2 r l) : EReal)) k))
      (fun j => (slice D j (ix2 r l) : EReal)) (fun a b hab => hs hab) σ
      (by funext k; exact congrArg OrderDual.ofDual (congrFun hσ k)) ⟨k, h⟩ x
  · rw [dif_neg h, emptied_apply]
    refine iff_of_false not_top_lt (fun h' => h ?_)
    refine h'.trans_le ((Finset.card_le_univ _).trans ?_)
    rw [Fintype.card_fin]

/-- Where one lane of a row holds less than every other lane, `leastLane` is that lane. -/
theorem leastLane_apply (x : Lanes Ideal) (r : Fin 512) (L : Fin 128)
    (hL : ∀ l, l ≠ L → (x (ix2 r L) : EReal) < x (ix2 r l)) (l : Fin 128) :
    leastLane x (ix2 r l) = if l = L then 1#1 else 0#1 := by
  have e : reduceIndex .argMin 1 S512 x reduces_S512x128_S512 (ix1 r) = BitVec.ofNat 32 L.val := by
    show Ideal.reduceIndex .argMin 1 reduces_S512x128_S512 x (ix1 r) = _
    unfold Ideal.reduceIndex
    have hf : ∀ i : S512x128.Idx, reduces_S512x128_S512.drop i = ix1 r ↔ ∃ k : Fin 128, ix2 r k = i :=
      fun i => Shape.Reduces.fiber_r2_a1 reduces_S512x128_S512 (ix1 r) i
    have hx : (Finset.univ.filter fun i : S512x128.Idx => reduces_S512x128_S512.drop i = ix1 r).filter
        (fun i => ∀ i' ∈ Finset.univ.filter fun i : S512x128.Idx => reduces_S512x128_S512.drop i = ix1 r,
          ¬ (if ArgKind.argMin = .argMax then (x i : EReal) < x i' else (x i' : EReal) < x i)) = {ix2 r L} := by
      ext i
      simp only [Finset.mem_filter, Finset.mem_univ, true_and, Finset.mem_singleton, hf, reduceCtorEq, if_false]
      constructor
      · rintro ⟨⟨k, rfl⟩, hk⟩
        by_contra hne
        have hkL : k ≠ L := fun e => hne (by rw [e])
        exact hk _ ⟨L, rfl⟩ (hL k hkL)
      · rintro rfl
        refine ⟨⟨L, rfl⟩, ?_⟩
        rintro _ ⟨k, rfl⟩
        by_cases hk : k = L
        · rw [hk]; exact lt_irrefl _
        · exact not_lt.mpr (hL k hk).le
    have hm : ∀ S : Finset S512x128.Idx, S = {ix2 r L} →
        BitVec.ofNat 32 ((S.image fun i => (i 1).val).min.getD 0) = BitVec.ofNat 32 L.val := by
      rintro _ rfl; rfl
    refine hm _ (Eq.trans ?_ hx)
    congr
  pointwise [leastLane, laneIdx]
  rw [e]
  by_cases h : l = L
  · subst h; rw [if_pos rfl]; exact IntOp.cmpi_eq_self _
  · rw [if_neg h]
    have hne : BitVec.ofNat 32 l.val ≠ BitVec.ofNat 32 L.val := fun he => h (Fin.ext (by
      have := congrArg BitVec.toNat he
      rwa [BitVec.toNat_ofNat, BitVec.toNat_ofNat, Nat.mod_eq_of_lt (by omega), Nat.mod_eq_of_lt (by omega)] at this))
    show BitVec.ofBool (BitVec.ofNat 32 l.val == BitVec.ofNat 32 L.val) = _
    rw [beq_eq_false_iff_ne.mpr hne]
    rfl

/-- The places of a row's lanes go through the rounds of the selection. -/
theorem rounds (D : FVec Ideal S512x4096 .f32) (r : Fin 512) :
    Cert.Select.Rounds (fun j l => (slice D j (ix2 r l) : EReal)) (fun t k (l : Fin 128) => places D t k (ix2 r l)) where
  sorted k l x := start_lt_iff D r k l x
  step t L hL k l := by
    show Scalar.select (leastLane (places D t 0) (ix2 r l)) (places D t (k + 1) (ix2 r l)) (places D t k (ix2 r l)) = _
    rw [leastLane_apply (places D t 0) r L hL]
    by_cases h : l = L
    · rw [if_pos h, if_pos h]; rfl
    · rw [if_neg h, if_neg h]; rfl

/-- The graph's entry that a row's slice holds, where the row's distances are ranked `v 0 < v 1 < … < v 32`: 1/32 where the
    distance is below `v 32`, else 0. -/
theorem chosen_apply (D : FVec Ideal S512x4096 .f32) (r : Fin 512) (v : ℕ → EReal) (w : ℕ → Fin 32 × Fin 128)
    (h : Cert.Select.Ranked (fun j l => (slice D j (ix2 r l) : EReal)) v w) (j : Fin 32) (l : Fin 128) :
    chosen D j (ix2 r l) = if (slice D j (ix2 r l) : EReal) < v 32 then Ideal.ofBits .f32 0x3D000000#32
      else Ideal.ofBits .f32 0x00000000#32 := by
  have hc := (rounds D r).chosen_iff h j l
  unfold chosen
  show Scalar.select (Ideal.cmp .olt (slice D j (ix2 r l)) (places D 32 0 (ix2 r l))) _ _ = _
  unfold Ideal.cmp
  dsimp only
  by_cases h' : (slice D j (ix2 r l) : EReal) < v 32
  · rw [if_pos h', decide_eq_true (hc.mpr h')]; rfl
  · rw [if_neg h', decide_eq_false (fun e => h' (hc.mp e))]; rfl

end Cert.KernelIdeal.Rounds
-- ==== Proof.RankRow.lean ====
/- A row of 4096 values and an order that sorts it, strictly as far as rank 32: the row is ranked in the sense of `Select`,
   and the 32 places that any sorting order lists first are those whose value lies below rank 32. -/
module

public import proofs.«01_k».proof.Proof.Select

@[expose] public section

noncomputable section

namespace Cert.Select

/-- `τ` lists the places of the row `d` in ascending order of their values. -/
structure Sorts (d : Fin 4096 → EReal) (τ : Fin 4096 → Fin 4096) : Prop where
  inj : Function.Injective τ
  mono : ∀ i j, i < j → d (τ i) ≤ d (τ j)

variable {d : Fin 4096 → EReal} {τ π : Fin 4096 → Fin 4096}

/-- The value of rank `t` (+∞ past the last). -/
def rank (d : Fin 4096 → EReal) (τ : Fin 4096 → Fin 4096) (t : ℕ) : EReal := if h : t < 4096 then d (τ ⟨t, h⟩) else ⊤

/-- The place of rank `t`, as slice and lane. -/
def place (τ : Fin 4096 → Fin 4096) (t : ℕ) : Fin 32 × Fin 128 :=
  if h : t < 4096 then
    (⟨(τ ⟨t, h⟩).val / 128, by have := (τ ⟨t, h⟩).isLt; omega⟩, ⟨(τ ⟨t, h⟩).val % 128, Nat.mod_lt _ (by decide)⟩)
  else (0, 0)

/-- The row by slice and lane. -/
def laned (d : Fin 4096 → EReal) (j : Fin 32) (l : Fin 128) : EReal := d ⟨128 * j.val + l.val, by omega⟩

/-- A sorting order as a permutation. -/
def Sorts.perm (h : Sorts d τ) : Equiv.Perm (Fin 4096) := Equiv.ofBijective τ (Finite.injective_iff_bijective.mp h.inj)

theorem Sorts.monotone (h : Sorts d τ) : Monotone (d ∘ τ) := fun i j hij => by
  rcases hij.eq_or_lt with rfl | hlt
  · exact le_rfl
  · exact h.mono i j hlt

/-- A value of the sorted row lies below `x` exactly when its rank is less than the number of values below `x`. -/
theorem Sorts.lt_iff (h : Sorts d τ) (k : Fin 4096) (x : EReal) :
    d (τ k) < x ↔ k.val < (Finset.univ.filter fun c => d c < x).card :=
  sorted_lt_iff (d ∘ τ) d h.monotone h.perm rfl k x

/-- The ranks below 33 differ: rank `t` is below rank `t + 1` for `t < 32`. -/
def Strict (d : Fin 4096 → EReal) (τ : Fin 4096 → Fin 4096) : Prop :=
  ∀ t : Fin 32, d (τ ⟨t.val, by omega⟩) < d (τ ⟨t.val + 1, by omega⟩)

/-- Exactly `t` values lie below rank `t`. -/
theorem Sorts.card_below (h : Sorts d τ) (hs : Strict d τ) (t : ℕ) (ht : t ≤ 32) :
    (Finset.univ.filter fun c => d c < rank d τ t).card = t := by
  have e : rank d τ t = d (τ ⟨t, by omega⟩) := dif_pos (by omega)
  rw [e]
  refine le_antisymm (not_lt.mp fun hlt => ?_) ?_
  · exact lt_irrefl _ ((h.lt_iff ⟨t, by omega⟩ _).mpr hlt)
  · obtain _ | s := t
    · exact Nat.zero_le _
    · exact (h.lt_iff ⟨s, by omega⟩ _).mp (hs ⟨s, ht⟩)

/-- The values below rank `t` are the first `t` of any sorting order. -/
theorem Sorts.lt_rank_iff (h : Sorts d τ) (hs : Strict d τ) (hπ : Sorts d π) (t : ℕ) (ht : t ≤ 32) (k : Fin 4096) :
    d (π k) < rank d τ t ↔ k.val < t := by
  rw [hπ.lt_iff, h.card_below hs t ht]

/-- The places whose value lies below rank 32 are the first 32 that any sorting order lists. -/
theorem Sorts.least_iff (h : Sorts d τ) (hs : Strict d τ) (hπ : Sorts d π) (c : Fin 4096) :
    d c < rank d τ 32 ↔ ∃ k : Fin 32, π ⟨k.val, by omega⟩ = c := by
  constructor
  · intro hlt
    obtain ⟨k, rfl⟩ := hπ.perm.surjective c
    exact ⟨⟨k.val, (h.lt_rank_iff hs hπ 32 le_rfl k).mp hlt⟩, rfl⟩
  · rintro ⟨k, rfl⟩
    exact (h.lt_rank_iff hs hπ 32 le_rfl _).mpr k.isLt

/-- A sorted row, strict as far as rank 32, is ranked. -/
theorem Sorts.ranked (h : Sorts d τ) (hs : Strict d τ) : Ranked (laned d) (rank d τ) (place τ) where
  first j l := by
    obtain ⟨k, hk⟩ := h.perm.surjective ⟨128 * j.val + l.val, by omega⟩
    unfold laned
    rw [← hk]
    exact not_lt.mp fun hlt => Nat.not_lt_zero _ ((h.lt_rank_iff hs h 0 (by omega) k).mp hlt)
  next t ht j l := by
    obtain ⟨k, hk⟩ := h.perm.surjective ⟨128 * j.val + l.val, by omega⟩
    have hk' : τ k = ⟨128 * j.val + l.val, by omega⟩ := hk
    unfold laned
    rw [← hk', h.lt_rank_iff hs h t ht.le k, h.lt_rank_iff hs h (t + 1) ht k, Nat.lt_succ_iff_lt_or_eq]
    have hpl : place τ t = (⟨(τ ⟨t, by omega⟩).val / 128, by have := (τ ⟨t, by omega⟩).isLt; omega⟩,
        ⟨(τ ⟨t, by omega⟩).val % 128, Nat.mod_lt _ (by decide)⟩) := dif_pos (by omega)
    refine or_congr_right ?_
    rw [hpl, Prod.ext_iff, Fin.ext_iff, Fin.ext_iff]
    dsimp only
    constructor
    · rintro rfl
      rw [show (⟨k.val, by omega⟩ : Fin 4096) = k from rfl, hk']
      dsimp only
      omega
    · rintro ⟨e1, e2⟩
      have e : τ k = τ ⟨t, by omega⟩ := by
        rw [hk']; apply Fin.ext; dsimp only; omega
      exact congrArg Fin.val (h.inj e)
  fresh t ht := by
    have hr : rank d τ t = d (τ ⟨t, by omega⟩) := dif_pos (by omega)
    have hpl : place τ t = (⟨(τ ⟨t, by omega⟩).val / 128, by have := (τ ⟨t, by omega⟩).isLt; omega⟩,
        ⟨(τ ⟨t, by omega⟩).val % 128, Nat.mod_lt _ (by decide)⟩) := dif_pos (by omega)
    rw [hr, hpl]
    unfold laned
    refine le_of_eq (congrArg d (Fin.ext ?_))
    dsimp only
    omega

end Cert.Select
-- ==== Proof.GraphBlock.lean ====
/- What the 32 stores of one grid point leave in the graph's block, at an entry. -/
module

public import proofs.«01_k».proof.Proof.RowRounds
public import proofs.«01_k».proof.Proof.RankRow
public import Idealize.ShloMosaic.Lib.Pipeline.ValueKit
public import Idealize.ShloMosaic.Lib.Pipeline.Value

@[expose] public section

noncomputable section

namespace Cert.KernelIdeal.Rounds

open Cert.KernelIdeal Cert.KernelIdeal.Gen Idealize.ShloMosaic Idealize.ShloMosaic.TcCoe Idealize.SL.Sem

/-- The block as one function: column `c` is lane `c % 128` of slice `c / 128`. -/
def joined (D : FVec Ideal S512x4096 .f32) : FVec Ideal S512x4096 .f32 := fun y =>
  chosen D ⟨(y 1).val / 128, Nat.div_lt_of_lt_mul (y 1).isLt⟩ (ix2 (⟨(y 0).val, (y 0).isLt⟩ : Fin 512) ⟨(y 1).val % 128, Nat.mod_lt _ (by decide)⟩)

/-- Every entry of the block lies in one of the stores. -/
theorem stored_cover (D : FVec Ideal S512x4096 .f32) (y : S512x4096.Idx) : ∃ p ∈ stored D, y ∈ p.1.set := by
  have h1 : (y 1).val < 4096 := (y 1).isLt
  have h0 : (y 0).val < 512 := (y 0).isLt
  have hj : (y 1).val / 128 < 32 := by omega
  refine ⟨_, List.mem_map.mpr ⟨⟨(y 1).val / 128, hj⟩, by simp, rfl⟩, ?_⟩
  rw [Rect.mem_set_unit]
  intro a
  fin_cases a
  · exact ⟨Nat.zero_le _, by simpa using h0⟩
  · constructor
    · show 128 * ((y 1).val / 128) ≤ (y 1).val
      omega
    · show (y 1).val < 128 * ((y 1).val / 128) + 128
      omega

/-- What the stores leave is `joined`. -/
theorem stored_eq (D : FVec Ideal S512x4096 .f32) : View.canon (Val := Elt Ideal) (stored D) = joined D := by
  funext y
  refine View.canon_apply_of_pieces (Val := Elt Ideal) (joined D) (stored D) (fun p hp x => ?_) y (stored_cover D y)
  obtain ⟨j, -, rfl⟩ := List.mem_map.mp hp
  have h0 : ((Rect.unit (s := S512x4096) ![0, 128 * j.val] S512x128.size (piece_fits j)).emb x 0).val = (x 0).val := by
    exact (ValueKit.rect_emb_unit_val _ _ _ _ _).trans (Nat.zero_add _)
  have h1 : ((Rect.unit (s := S512x4096) ![0, 128 * j.val] S512x128.size (piece_fits j)).emb x 1).val = 128 * j.val + (x 1).val := by
    exact ValueKit.rect_emb_unit_val _ _ _ _ _
  have hx : (x 1).val < 128 := (x 1).isLt
  unfold joined
  have ej : ∀ q : Fin 32, q.val = j.val → ∀ z : S512x128.Idx, (z 0).val = (x 0).val → (z 1).val = (x 1).val →
      chosen D j x = chosen D q z := fun q hq z hz0 hz1 => by
    obtain rfl := Fin.ext hq
    congr 1
    funext a
    fin_cases a
    · exact Fin.ext hz0.symm
    · exact Fin.ext hz1.symm
  refine ej _ ?_ _ h0 ?_
  · exact (congrArg (· / 128) h1).trans (by show (128 * j.val + (x 1).val) / 128 = j.val; omega)
  · exact (congrArg (· % 128) h1).trans (by show (128 * j.val + (x 1).val) % 128 = (x 1).val; omega)

/-- An entry of the block, where its row's distances are `d` and an order `τ` sorts them, strictly as far as rank 32. -/
theorem joined_apply (D : FVec Ideal S512x4096 .f32) (r : Fin 512) (d : Fin 4096 → EReal) (τ : Fin 4096 → Fin 4096)
    (hD : ∀ c, (D (ix2 r c) : EReal) = d c) (hτ : Cert.Select.Sorts d τ) (hs : Cert.Select.Strict d τ) (c : Fin 4096) :
    joined D (ix2 r c) = if d c < Cert.Select.rank d τ 32 then Ideal.ofBits .f32 0x3D000000#32
      else Ideal.ofBits .f32 0x00000000#32 := by
  have e : (fun (j : Fin 32) (l : Fin 128) => (slice D j (ix2 r l) : EReal)) = Cert.Select.laned d := by
    funext j l
    rw [slice_apply, hD]
    rfl
  have h := chosen_apply D r (Cert.Select.rank d τ) (Cert.Select.place τ) (e ▸ hτ.ranked hs)
    ⟨c.val / 128, Nat.div_lt_of_lt_mul c.isLt⟩ ⟨c.val % 128, Nat.mod_lt _ (by decide)⟩
  refine Eq.trans h ?_
  rw [slice_apply, hD]
  have hc : (⟨128 * (c.val / 128) + c.val % 128, by omega⟩ : Fin 4096) = c := Fin.ext (Nat.div_add_mod _ _)
  exact if_congr (by rw [hc]) rfl rfl

end Cert.KernelIdeal.Rounds
-- ==== Proof.Blocks.lean ====
/- What one grid point leaves in its two output blocks, as terms over its input blocks. -/
module

public import proofs.«01_k».proof.Proof.GraphBlock
public import proofs.«01_k».proof.Proof.Gen.KernelIdeal.Frame

@[expose] public section

set_option maxRecDepth 16384

noncomputable section

namespace Cert.KernelIdeal.Rounds

open Cert.KernelIdeal Cert.KernelIdeal.Gen Idealize.ShloMosaic Idealize.ShloMosaic.TcCoe Idealize.SL.Sem

/-- The row of squared lengths is loaded at offset zero. -/
theorem off_zero : ∀ i : grid0.Coords, k0_off1 i = fun _ => 0 := by
  intro i
  funext a
  fin_cases a
  · show (Scalar.indexCast (Scalar.subi (BitVec.ofNat 32 (i 0).val) (BitVec.ofNat 32 (i 0).val)) : Index).toNat = 0
    have e : Scalar.subi (BitVec.ofNat 32 (i 0).val) (BitVec.ofNat 32 (i 0).val) = 0#32 := BitVec.sub_self _
    rw [e]
    rfl
  · rfl

variable (c : Dev nD) (i : grid0.Coords) (arg1 : Memref sig .tc .vmem S4096x256 .f32) (harg1 : arg1.IsWhole) (arg2 : Memref sig .tc .vmem S512x256 .f32) (harg2 : arg2.IsWhole) (arg3 : Memref sig .tc .vmem S1x4096 .f32) (harg3 : arg3.IsWhole) (arg4 : Memref sig .tc .vmem S512x1 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S512x4096 .f32) (harg9 : arg9.IsWhole) (arg10 : Memref sig .tc .vmem S512x256 .f32) (harg10 : arg10.IsWhole)
  (x0 : Vec Ideal S4096x256 .f32) (x1 : Vec Ideal S512x256 .f32) (x2 : Vec Ideal S1x4096 .f32) (x3 : Vec Ideal S512x1 .f32) (x4 : Vec Ideal S256x256 .f32) (x5 : Vec Ideal S1x256 .f32) (x6 : Vec Ideal S1x256 .f32) (x7 : Vec Ideal S1x256 .f32)

/-- The block of distances that the body computes from its input blocks. -/
theorem dists_eq : kernelRun0_A.sl.r_1 c i arg1 harg1 arg2 harg2 arg3 harg3 arg4 harg4 x0 x1 x2 x3 = k0_pay3 (F := Ideal) i x0 x1 x2 x3 := by
  unfold kernelRun0_A.sl.r_1
  frame_out
  exact congrArg (fun q => k0_pay3 i x0 x1 q x3) (View.ld_unit_zero (off_zero i) _ x2)

/-- The graph's block after the body. -/
theorem graph_block : out0_A_8 c i arg1 harg1 arg2 harg2 arg3 harg3 arg4 harg4 arg5 harg5 arg6 harg6 arg7 harg7 arg8 harg8 arg9 harg9 arg10 harg10 x0 x1 x2 x3 x4 x5 x6 x7 = joined (k0_pay3 i x0 x1 x2 x3) := by
  unfold out0_A_8
  rw [View.read_writes_junk_eq_canon]
  have e : (kernelRun0_A c i arg1 harg1 arg2 harg2 arg3 harg3 arg4 harg4 arg5 harg5 arg6 harg6 arg7 harg7 arg8 harg8 arg9 harg9 arg10 harg10 x0 x1 x2 x3 x4 x5 x6 x7).1 = stored (kernelRun0_A.sl.r_1 c i arg1 harg1 arg2 harg2 arg3 harg3 arg4 harg4 x0 x1 x2 x3) :=
    stores_eq c i arg1 harg1 arg2 harg2 arg3 harg3 arg4 harg4 x0 x1 x2 x3
  rw [e, stored_eq, dists_eq]

/-- The graph's block read back for the aggregation. -/
theorem readback_eq : kernelRun0_A.sl.v1258 (F := Ideal) c i arg1 harg1 arg2 harg2 arg3 harg3 arg4 harg4 arg9 x0 x1 x2 x3 = joined (k0_pay3 i x0 x1 x2 x3) := by
  unfold kernelRun0_A.sl.v1258
  refine (shapeCast_self _ _).trans ?_
  refine (View.readCov_eq_canon_ld _ _ _ ?_).trans ?_
  · rw [stores_eq]
    exact stored_cover _
  · rw [stores_eq, stored_eq, dists_eq]
    exact View.ld_unit_zero (by funext a; fin_cases a <;> rfl) _ _

/-- The block of the second layer: the aggregated features times the weights, plus the bias, normalised by rows. -/
def layer (G : FVec Ideal S512x4096 .f32) (x0 : Vec Ideal S4096x256 .f32) (x4 : Vec Ideal S256x256 .f32) (x5 x6 x7 : Vec Ideal S1x256 .f32) : FVec Ideal S512x256 .f32 :=
  k0_pay1 (k0_pay978 (matmul dot_S512x4096_S4096x256_S512x256_1_0_0_1_n_n none G (k0_pay2 x0) (constant S512x256 .f32 0x00000000#32)) x4 (constant S512x256 .f32 0x00000000#32) x5 x6) x7

/-- The second output's block after the body. -/
theorem hidden_block : out0_A_9 c i arg1 harg1 arg2 harg2 arg3 harg3 arg4 harg4 arg5 harg5 arg6 harg6 arg7 harg7 arg8 harg8 arg9 harg9 arg10 harg10 x0 x1 x2 x3 x4 x5 x6 x7 = layer (joined (k0_pay3 i x0 x1 x2 x3)) x0 x4 x5 x6 x7 := by
  unfold out0_A_9
  rw [View.read_writes_junk_eq_canon]
  have e0 : kernelRun0_A.sl.r (F := Ideal) c arg1 harg1 x0 = k0_pay2 x0 := by
    unfold kernelRun0_A.sl.r
    frame_out
  have e4 : kernelRun0_A.sl.r_57 (F := Ideal) c arg5 harg5 x4 = x4 := by
    unfold kernelRun0_A.sl.r_57
    frame_out
  have e5 : View.readAt (Elt Ideal) arg6.view (Rect.unit ![0, 0] S1x256.size inb_S1x256_S1x256_0_0).toLoadRect (harg6.unread x5) = x5 := by
    frame_out
  have e6 : View.readAt (Elt Ideal) arg7.view (Rect.unit ![0, 0] S1x256.size inb_S1x256_S1x256_0_0).toLoadRect (harg7.unread x6) = x6 := by
    frame_out
  have e7 : View.readAt (Elt Ideal) arg8.view (Rect.unit ![0, 0] S1x256.size inb_S1x256_S1x256_0_0).toLoadRect (harg8.unread x7) = x7 := by
    frame_out
  have e : (kernelRun0_A (F := Ideal) c i arg1 harg1 arg2 harg2 arg3 harg3 arg4 harg4 arg5 harg5 arg6 harg6 arg7 harg7 arg8 harg8 arg9 harg9 arg10 harg10 x0 x1 x2 x3 x4 x5 x6 x7).2.1 = [⟨Rect.unit ![0, 0] S512x256.size inb_S512x256_S512x256_0_0,
      k0_pay1 (kernelRun0_A.sl.r_58 c i arg1 harg1 arg2 harg2 arg3 harg3 arg4 harg4 arg5 harg5 arg6 harg6 arg7 harg7 arg9 x0 x1 x2 x3 x4 x5 x6)
        (View.readAt (Elt Ideal) arg8.view (Rect.unit ![0, 0] S1x256.size inb_S1x256_S1x256_0_0).toLoadRect (harg8.unread x7))⟩] := rfl
  rw [e]
  refine (View.canon_unit_zero (by funext a; fin_cases a <;> rfl) _ _).trans ?_
  unfold kernelRun0_A.sl.r_58 kernelRun0_A.sl.v1259
  rw [e0, e4, e5, e6, e7, readback_eq]
  rfl

end Cert.KernelIdeal.Rounds
-- ==== Proof.Scatters.lean ====
/- The two scatters of the reference, read at an entry: the one that sets the diagonal of a square matrix, and the one that sets
   32 listed entries of every row. -/
module

public import Idealize.ShloMosaic.Lib.Routing.OpsOne
public import Idealize.ShloMosaic.Lib.Routing.OpsSet
public import Idealize.ShloMosaic.Lib.Routing.OpsPair

@[expose] public section

noncomputable section

namespace Cert.Scatters

open Idealize.ShloMosaic Idealize.ShloMosaic.Routing Idealize.ShloMosaic.ValueIdx

/-- Update `a` of a scatter of `A` scalars into an `R × C` matrix, two index words each, lands at `(r, c)` exactly when its
    words, read signed, are `r` and `c`. -/
theorem lands_row {R C A w : ℕ} (d : ScatterDims (shape2 R C) (shape2 A 2) (shape1 A)) (hiw : d.insertedWindowDims = [0, 1])
    (hsd : d.scatterDimsToOperandDims = [0, 1]) (hivd : d.indexVectorDim = 1) (idx : IVec (shape2 A 2) w)
    (a : Fin A) (r : Fin R) (c : Fin C) :
    d.resultIdx? (ix1 a) idx = some (ix2 r c)
      ↔ (idx (ix2 a (0 : Fin 2))).toInt = r.val ∧ (idx (ix2 a (1 : Fin 2))).toInt = c.val := by
  have hm : ∀ q : Fin 2, q ∈ d.scatterDimsToOperandDims := fun q => by rw [hsd]; fin_cases q <;> simp
  have hwin : ∀ q : Fin 2, d.window (ix1 a) q = 0 := fun q => by
    unfold ScatterDims.window
    rw [dif_neg fun h => (of_decide_eq_true (List.mem_filter.1 h).2) (by rw [hiw]; fin_cases q <;> simp)]
  have hsi : ∀ q : Fin 2, d.siIdx (ix1 a) ⟨d.scatterDimsToOperandDims.idxOf q, List.idxOf_lt_length_iff.2 (hm q)⟩
      = ix2 a q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      have hX : ∀ X : Fin 1, (ix1 a X).val = a.val := fun X => by
        obtain rfl : X = 0 := Subsingleton.elim _ _
        rfl
      exact hX _
    | ⟨1, _⟩ =>
      unfold ScatterDims.siIdx
      rw [dif_pos (by rw [hivd])]
      show List.idxOf q d.scatterDimsToOperandDims = q.val
      rw [hsd]
      fin_cases q <;> rfl
  have hst : ∀ q : Fin 2, d.start (ix1 a) idx q = (idx (ix2 a q)).toInt := fun q => by
    unfold ScatterDims.start
    rw [dif_pos (hm q), hsi q]
  rw [resultIdx?_ix2, hst, hst, hwin, hwin]
  omega

/-- The signed reading of a word that holds a small number. -/
theorem toInt_small (n : ℕ) (h : n < 4096) : (BitVec.ofNat 32 n).toInt = (n : ℤ) := by
  rw [BitVec.toInt_eq_toNat_of_lt (by rw [BitVec.toNat_ofNat]; omega), BitVec.toNat_ofNat]
  omega

/-- One value set at the entries `(i, i)`: the diagonal holds it, every other entry is as before. -/
theorem diagonal {α : Type} (d : ScatterDims (shape2 4096 4096) (shape2 4096 2) (shape1 4096))
    (hiw : d.insertedWindowDims = [0, 1]) (hsd : d.scatterDimsToOperandDims = [0, 1]) (hivd : d.indexVectorDim = 1)
    (x : (shape2 4096 4096).Idx → α) (idx : IVec (shape2 4096 2) 32) (upd : (shape1 4096).Idx → α) (v : α)
    (hidx : ∀ (i : Fin 4096) (q : Fin 2), idx (ix2 i q) = BitVec.ofNat 32 i.val) (hupd : ∀ k, upd k = v)
    (r c : Fin 4096) :
    Host.scatter d (fun _ b => b) x idx upd (ix2 r c) = if r = c then v else x (ix2 r c) := by
  have hl : ∀ a : Fin 4096, d.resultIdx? (ix1 a) idx = some (ix2 r c) ↔ a = r ∧ a = c := fun a => by
    rw [lands_row d hiw hsd hivd, hidx, hidx, toInt_small _ a.isLt, Fin.ext_iff, Fin.ext_iff]
    omega
  by_cases h : r = c
  · rw [if_pos h]
    exact scatter_set_hit d x idx upd _ v (fun k _ => hupd k) (ix1 r) ((hl r).mpr ⟨rfl, h⟩)
  · rw [if_neg h]
    refine scatter_set_miss d x idx upd _ fun k hk => h ?_
    rw [eq_ix1 k] at hk
    obtain ⟨e1, e2⟩ := (hl _).mp hk
    exact e1.symm.trans e2

/-- One value set at 32 listed columns of every row: an entry holds it if its column is listed for its row, else it is as
    before. -/
theorem listed {α : Type} (d : ScatterDims (shape2 4096 4096) (shape3 4096 32 2) (shape2 4096 32))
    (hiw : d.insertedWindowDims = [0, 1]) (hsd : d.scatterDimsToOperandDims = [0, 1]) (hivd : d.indexVectorDim = 2)
    (x : (shape2 4096 4096).Idx → α) (idx : IVec (shape3 4096 32 2) 32) (upd : (shape2 4096 32).Idx → α) (v : α)
    (col : Fin 4096 → Fin 32 → Fin 4096)
    (hrow : ∀ (i : Fin 4096) (k : Fin 32), idx (ix3 i k (0 : Fin 2)) = BitVec.ofNat 32 i.val)
    (hcol : ∀ (i : Fin 4096) (k : Fin 32), idx (ix3 i k (1 : Fin 2)) = BitVec.ofNat 32 (col i k).val)
    (hupd : ∀ k, upd k = v) (r c : Fin 4096) [Decidable (∃ k : Fin 32, col r k = c)] :
    Host.scatter d (fun _ b => b) x idx upd (ix2 r c) = if ∃ k : Fin 32, col r k = c then v else x (ix2 r c) := by
  have hl : ∀ (a : Fin 4096) (k : Fin 32), d.resultIdx? (ix2 a k) idx = some (ix2 r c) ↔ a = r ∧ col a k = c := fun a k => by
    rw [scatter_lands2 d hiw hsd hivd, hrow, hcol, toInt_small _ a.isLt, toInt_small _ (col a k).isLt, Fin.ext_iff, Fin.ext_iff]
    omega
  by_cases h : ∃ k : Fin 32, col r k = c
  · rw [if_pos h]
    obtain ⟨k, hk⟩ := h
    exact scatter_set_hit d x idx upd _ v (fun k _ => hupd k) (ix2 r k) ((hl r k).mpr ⟨rfl, hk⟩)
  · rw [if_neg h]
    refine scatter_set_miss d x idx upd _ fun k hk => h ?_
    rw [eq_ix2 k] at hk
    obtain ⟨e1, e2⟩ := (hl _ _).mp hk
    exact ⟨_, e1 ▸ e2⟩

end Cert.Scatters
-- ==== Proof.Order.lean ====
/- The two stable sorts the programs make of a square matrix's rows, read at an entry: `top_k` of the negated matrix lists the
   columns of a row in ascending order, and so does the ascending sort. -/
module

public import proofs.«01_k».proof.Proof.RankRow
public import Idealize.ShloMosaic.Lib.SortFacts
public import Idealize.ShloMosaic.Lib.Pointwise

@[expose] public section

noncomputable section

namespace Cert.Order

open Idealize.ShloMosaic

/-- The shape of the distances. -/
abbrev Sq : Shape := ⟨2, ![4096, 4096]⟩

/-- The shape of the listed columns. -/
abbrev Few : Shape := ⟨2, ![4096, 32]⟩

/-- The columns in the order of a comparison of values. -/
def order (before : EReal → EReal → BitVec 1) (d : Fin 4096 → EReal) : Fin 4096 → Fin 4096 :=
  sortedFrom fun k k' => before (d k) (d k') == 1#1

/-- Sorting by "less" lists the columns in ascending order. -/
theorem order_sorts (before : EReal → EReal → BitVec 1) (hb : ∀ x y, before x y = 1#1 ↔ x < y) (d : Fin 4096 → EReal) :
    Cert.Select.Sorts d (order before d) where
  inj := sortedFrom_injective _
  mono i j hij := by
    have h := sortedFrom_noInversion (fun k k' => before (d k) (d k') == 1#1) (fun k k' => before (d k) (d k') == 1#1)
      (fun a b hab => ?_) (fun _ _ h => h) (fun a b c hab hbc => ?_) i j hij
    · rw [beq_eq_false_iff_ne, ne_eq, hb] at h
      exact not_lt.mp h
    · rw [beq_iff_eq, hb] at hab
      rw [beq_eq_false_iff_ne, ne_eq, hb]
      exact hab.le.not_gt
    · rw [beq_eq_false_iff_ne, ne_eq, hb, not_lt] at hab hbc ⊢
      exact hbc.trans hab

/-- Moving along row `r` to column `k`. -/
theorem along_col (h : 1 < Sq.rank) (r c : Fin 4096) (k : Fin 4096) :
    Shape.Idx.along (s := Sq) (ix2 r c) ⟨1, h⟩ k = ix2 r k := by
  funext a
  fin_cases a
  · rfl
  · rfl

/-- The sorting permutation of row `r`. -/
theorem order_row (before : EReal → EReal → BitVec 1) (h : 1 < Sq.rank) (x : Sq.Idx → EReal) (r c : Fin 4096) :
    sortedFrom (fun k k' : Fin 4096 => before (x (Shape.Idx.along (s := Sq) (ix2 r c) ⟨1, h⟩ k))
      (x (Shape.Idx.along (s := Sq) (ix2 r c) ⟨1, h⟩ k')) == 1#1) = order before fun k => x (ix2 r k) := by
  unfold order
  congr 1
  funext k k'
  rw [along_col, along_col]

/-- An ascending sort of the rows, at an entry. -/
theorem sort_apply (before : EReal → EReal → BitVec 1) (x : Sq.Idx → EReal) (r c : Fin 4096) :
    Host.sort Sq 1 before x (ix2 r c) = x (ix2 r (order before (fun k => x (ix2 r k)) c)) := by
  unfold Host.sort
  rw [dif_pos (by decide)]
  refine (congrArg x (along_col (by decide) r c _)).trans ?_
  exact congrArg (fun π : Fin 4096 → Fin 4096 => x (ix2 r (π c))) (order_row before (by decide) x r c)

/-- A second operand carried along by a sort of the rows, at an entry. -/
theorem carried_apply {β : Type} (before : EReal → EReal → BitVec 1) (x : Sq.Idx → EReal) (y : Sq.Idx → β) (r c : Fin 4096) :
    (Host.sort2 Sq 1 (fun l r => before l.1 r.1) x y).2 (ix2 r c) = y (ix2 r (order before (fun k => x (ix2 r k)) c)) := by
  unfold Host.sort2
  rw [dif_pos (by decide)]
  refine (congrArg y (along_col (by decide) r c _)).trans ?_
  exact congrArg (fun π : Fin 4096 → Fin 4096 => y (ix2 r (π c))) (order_row before (by decide) x r c)

/-- The columns `top_k` lists for row `r`. -/
theorem topK_apply (gt : EReal → EReal → BitVec 1) (x : Sq.Idx → EReal) (h : Sq.Slices (fun _ => 0) Few) (r : Fin 4096)
    (k : Fin 32) :
    (Host.topK Few 1 gt x h).2 (ix2 r k) = BitVec.ofNat 32 (order gt (fun k => x (ix2 r k)) ⟨k.val, by omega⟩).val := by
  have e : ∀ v : Sq.Idx → BitVec 32, extractStridedSlice Few (fun _ => 0) v h (ix2 r k) = v (ix2 r ⟨k.val, by omega⟩) :=
    fun v => by pointwise
  have q := (e _).trans (carried_apply gt x (fun i => if hd : 1 < Sq.rank then iotaInDim Sq 32 ⟨1, hd⟩ i else 0#32) r ⟨k.val, by omega⟩)
  refine Eq.trans q ?_
  clear q
  generalize order gt (fun k => x (ix2 r k)) ⟨k.val, by omega⟩ = q
  exact dif_pos (by decide)

end Cert.Order
-- ==== Proof.Reference.lean ====
/- The reference read at an entry: its distances, the 32 nearest columns that its `top_k` lists for a row, and its graph. -/
module

public import proofs.«01_k».proof.Proof.Gen.ReferenceIdeal.Run
public import proofs.«01_k».proof.Proof.Scatters
public import proofs.«01_k».proof.Proof.Order
public import Idealize.ShloMosaic.Lib.SortFacts
public import Idealize.ShloMosaic.Lib.Pointwise
public import Idealize.ShloMosaic.Lib.Pointwise.IndexBridge

@[expose] public section

noncomputable section

namespace Cert.Graph

open Idealize.ShloMosaic

/-- A matrix of features: 4096 rows of 256. -/
abbrev Feats : Type := (⟨2, ![4096, 256]⟩ : Shape).Idx → EReal

/-- The squared length of row `r`. -/
def sqn (f : Feats) (r : Fin 4096) : EReal := ∑ k : Fin 256, f (ix2 r k) * f (ix2 r k)

/-- The inner product of rows `r` and `c`. -/
def inner (f : Feats) (r c : Fin 4096) : EReal := ∑ k : Fin 256, f (ix2 r k) * f (ix2 c k)

/-- The squared distance of rows `r` and `c`, as both programs compute it; +∞ on the diagonal. -/
def dist (f : Feats) (r c : Fin 4096) : EReal :=
  if r = c then ⊤ else sqn f r + sqn f c - Ideal.ofBits .f32 0x40000000#32 * inner f r c

end Cert.Graph

namespace Cert.ReferenceIdeal.Value

open Cert.ReferenceIdeal Cert.ReferenceIdeal.Gen Idealize.ShloMosaic Idealize.ShloMosaic.TcCoe Idealize.SL.Sem
open Idealize.ShloMosaic.StableHlo Cert.Graph

/-- The squared distances before the diagonal is set, from the features and their squared lengths. -/
def gram (f : FVec Ideal S4096x256 .f32) (q : FVec Ideal S4096 .f32) : FVec Ideal S4096x4096 .f32 :=
  subf (addf (broadcastInDim S4096x4096 ![0, 1] bcast_S4096x1_S4096x4096_0_1 (broadcastInDim S4096x1 ![0] bcast_S4096_S4096x1_0 q)) (broadcastInDim S4096x4096 ![0, 1] bcast_S1x4096_S4096x4096_0_1 (broadcastInDim S1x4096 ![1] bcast_S4096_S1x4096_1 q))) (mulf (broadcastInDim S4096x4096 ![] bcast_S_S4096x4096 (constant S_ .f32 0x40000000#32)) (Host.dotGeneral dot_S4096x256_S256x4096_S4096x4096_1_0_0_1_n_n none f (transpose S256x4096 [1, 0] f transposes_S4096x256_S256x4096_1_0)))

/-- The entries of the squared distances before the diagonal is set. -/
theorem gram_apply (f : FVec Ideal S4096x256 .f32) (q : FVec Ideal S4096 .f32) (r c : Fin 4096) :
    gram f q (ix2 r c) = q (ix1 r) + q (ix1 c) - Ideal.ofBits .f32 0x40000000#32 * Cert.Graph.inner f r c := by
  unfold Cert.Graph.inner gram
  pointwise

/-- The row numbers, a negative one counted from the end. -/
def wrapped (t : IVec S4096 32) : IVec S4096 32 :=
  select (cmpi .slt t (broadcastInDim S4096 ![] bcast_S_S4096 (constantI S_ 32 0#32))) (addi t (broadcastInDim S4096 ![] bcast_S_S4096 (constantI S_ 32 4096#32))) t

/-- No row number is negative. -/
theorem wrapped_apply (i : Fin 4096) : wrapped (iotaInDim S4096 32 0) (ix1 i) = BitVec.ofNat 32 i.val := by
  unfold wrapped
  pointwise
  refine Routing.wrap_of_lt _ _ ?_
  rw [BitVec.toNat_ofNat]
  omega

/-- The list of diagonal entries. -/
def steps (t : IVec S4096 32) : IVec S4096x2 32 :=
  concatenate S4096x2 1 [⟨S4096x1, broadcastInDim S4096x1 ![0] bcast_S4096_S4096x1_0 (wrapped t)⟩, ⟨S4096x1, broadcastInDim S4096x1 ![0] bcast_S4096_S4096x1_0 (wrapped t)⟩] concatenates_S4096x1_S4096x1_S4096x2_d1

/-- The `i`-th listed diagonal entry is `(i, i)`. -/
theorem steps_apply (i : Fin 4096) (q : Fin 2) : steps (iotaInDim S4096 32 0) (ix2 i q) = BitVec.ofNat 32 i.val := by
  rw [← wrapped_apply i]
  unfold steps
  generalize wrapped _ = w
  fin_cases q
  · pointwise
  · pointwise

/-- The reference's distances with the diagonal set. -/
def distances (V0 : Valuation τ sig (Elt Ideal)) : FVec Ideal S4096x4096 .f32 :=
  Host.scatter scatter_S4096x4096_S4096x2_S4096_n_01_01_1 (fun _ b => b) (gram (res_main_v26 V0) (res_main_v28 V0))
    (steps (res_main_v39 V0)) (broadcastInDim S4096 ![] bcast_S_S4096 (constant S_ .f32 0x7F800000#32))

set_option maxRecDepth 8192 in
/-- What `top_k` is given: the distances with their sign changed. -/
theorem negated (V0 : Valuation τ sig (Elt Ideal)) : res_main_v55 V0 = Host.negf (distances V0) := rfl

/-- The reference's features. -/
abbrev feats (V0 : Valuation τ sig (Elt Ideal)) : Feats := res_main_v26 V0

/-- The reference's squared lengths. -/
theorem sqn_apply (V0 : Valuation τ sig (Elt Ideal)) (r : Fin 4096) :
    (show FVec Ideal S4096 .f32 from res_main_v28 V0) (ix1 r) = sqn (feats V0) r := by
  unfold sqn feats
  show (show FVec Ideal S4096 .f32 from Host.reduceAdd (F := Ideal) (φ := .f32) (s := S4096x256) (mulf (res_main_v26 V0) (res_main_v26 V0)) (constant S_ .f32 0x00000000#32) reducesTo_S4096x256_S4096_d1 h_S_) (ix1 r) = _
  generalize (res_main_v26 V0) = f
  change S4096x256.Idx → EReal at f
  pointwise

/-- The reference's distances, entry by entry. -/
theorem distances_apply (V0 : Valuation τ sig (Elt Ideal)) (r c : Fin 4096) :
    distances V0 (ix2 r c) = Cert.Graph.dist (feats V0) r c := by
  unfold distances
  rw [ix2_eq_valueIdx]
  refine (Cert.Scatters.diagonal scatter_S4096x4096_S4096x2_S4096_n_01_01_1 rfl rfl rfl _ _ _ (⊤ : EReal) ?_ ?_ r c).trans ?_
  · intro i q
    rw [← ix2_eq_valueIdx]
    exact steps_apply i q
  · intro k
    show Ideal.ofBits .f32 0x7F800000#32 = ⊤
    simp [Ideal.ofBits, Ideal.ieee]
  · unfold Cert.Graph.dist
    refine if_congr Iff.rfl rfl ?_
    rw [← ix2_eq_valueIdx, gram_apply, ← sqn_apply V0 r, ← sqn_apply V0 c]

/-- "Greater" of two negated values, as `top_k` compares them. -/
def nearer (x y : EReal) : BitVec 1 := (FloatOps.cmpfTotal (F := Ideal) (φ := .f32) .gt) (-x) (-y)

/-- A distance goes before another in the order of `top_k` exactly when it is smaller. -/
theorem nearer_iff (x y : EReal) : nearer x y = 1#1 ↔ x < y := by
  rw [← EReal.neg_lt_neg_iff (a := y) (b := x)]
  show BitVec.ofBool (decide (-y < -x)) = 1#1 ↔ _
  by_cases h : -y < -x <;> simp [h]

/-- The columns in the order in which `top_k` lists them for row `r`. -/
def listing (V0 : Valuation τ sig (Elt Ideal)) (r : Fin 4096) : Fin 4096 → Fin 4096 :=
  Cert.Order.order nearer (Cert.Graph.dist (feats V0) r)

/-- They are in ascending order of their distances. -/
theorem listing_sorts (V0 : Valuation τ sig (Elt Ideal)) (r : Fin 4096) :
    Cert.Select.Sorts (Cert.Graph.dist (feats V0) r) (listing V0 r) := Cert.Order.order_sorts nearer nearer_iff _

set_option maxRecDepth 8192 in
/-- The columns that `top_k` returns. -/
theorem indices_apply (V0 : Valuation τ sig (Elt Ideal)) (r : Fin 4096) (k : Fin 32) :
    (show IVec S4096x32 32 from res_main_indices V0) (ix2 r k) = BitVec.ofNat 32 (listing V0 r ⟨k.val, by omega⟩).val := by
  have h := Cert.Order.topK_apply (FloatOps.cmpfTotal (F := Ideal) (φ := .f32) .gt) (res_main_v55 V0)
    sliceFits_S4096x4096_S4096x32 r k
  refine Eq.trans h ?_
  have e : (fun k : Fin 4096 => (show FVec Ideal S4096x4096 .f32 from res_main_v55 V0) (ix2 r k)) = fun k => -Cert.Graph.dist (feats V0) r k := by
    funext k
    rw [← distances_apply V0 r k]
    exact congrFun (negated V0) (ix2 r k)
  exact congrArg (fun d => BitVec.ofNat 32 (Cert.Order.order (FloatOps.cmpfTotal (F := Ideal) (φ := .f32) .gt) d ⟨k.val, by omega⟩).val) e

end Cert.ReferenceIdeal.Value
-- ==== Proof.RefGraph.lean ====
/- The graph of the reference at an entry: 1/32 where `top_k` lists the column for the row, 0 elsewhere. -/
module

public import proofs.«01_k».proof.Proof.Reference

@[expose] public section

noncomputable section

namespace Cert.ReferenceIdeal.Value

open Cert.ReferenceIdeal Cert.ReferenceIdeal.Gen Idealize.ShloMosaic Idealize.ShloMosaic.TcCoe Idealize.SL.Sem
open Idealize.ShloMosaic.StableHlo

/-- The rows of the listed entries, a negative one counted from the end. -/
def listedRow (t : IVec S4096x1 32) : IVec S4096x1 32 :=
  select (cmpi .slt t (broadcastInDim S4096x1 ![] bcast_S_S4096x1 (constantI S_ 32 0#32))) (addi t (broadcastInDim S4096x1 ![] bcast_S_S4096x1 (constantI S_ 32 4096#32))) t

/-- The columns of the listed entries, a negative one counted from the end. -/
def listedCol (t : IVec S4096x32 32) : IVec S4096x32 32 :=
  select (cmpi .slt t (broadcastInDim S4096x32 ![] bcast_S_S4096x32 (constantI S_ 32 0#32))) (addi t (broadcastInDim S4096x32 ![] bcast_S_S4096x32 (constantI S_ 32 4096#32))) t

/-- The listed entries as pairs of row and column. -/
def entries (t : IVec S4096x1 32) (u : IVec S4096x32 32) : IVec S4096x32x2 32 :=
  concatenate S4096x32x2 2 [⟨S4096x32x1, (broadcastInDim S4096x32x1 ![0, 1] bcast_S4096x32_S4096x32x1_0_1 (broadcastInDim S4096x32 ![0, 1] bcast_S4096x1_S4096x32_0_1 t))⟩, ⟨S4096x32x1, (broadcastInDim S4096x32x1 ![0, 1] bcast_S4096x32_S4096x32x1_0_1 u)⟩] concatenates_S4096x32x1_S4096x32x1_S4096x32x2_d2

/-- The row of a listed entry. -/
theorem entries_row (t : IVec S4096x1 32) (u : IVec S4096x32 32) (i : Fin 4096) (k : Fin 32) :
    entries t u (ix3 i k (0 : Fin 2)) = t (ix2 i (0 : Fin 1)) := by
  unfold entries
  pointwise

/-- The column of a listed entry. -/
theorem entries_col (t : IVec S4096x1 32) (u : IVec S4096x32 32) (i : Fin 4096) (k : Fin 32) :
    entries t u (ix3 i k (1 : Fin 2)) = u (ix2 i k) := by
  unfold entries
  pointwise

/-- A row number is not negative. -/
theorem listedRow_apply (t : IVec S4096x1 32) (i : Fin 4096) (h : t (ix2 i (0 : Fin 1)) = BitVec.ofNat 32 i.val) :
    listedRow t (ix2 i (0 : Fin 1)) = BitVec.ofNat 32 i.val := by
  unfold listedRow
  pointwise
  rw [h]
  refine Routing.wrap_of_lt _ _ ?_
  rw [BitVec.toNat_ofNat]
  omega

/-- A column number is not negative. -/
theorem listedCol_apply (t : IVec S4096x32 32) (i : Fin 4096) (k : Fin 32) (c : Fin 4096)
    (h : t (ix2 i k) = BitVec.ofNat 32 c.val) : listedCol t (ix2 i k) = BitVec.ofNat 32 c.val := by
  unfold listedCol
  pointwise
  rw [h]
  refine Routing.wrap_of_lt _ _ ?_
  rw [BitVec.toNat_ofNat]
  omega

/-- The graph of the reference. -/
def graph (V0 : Valuation τ sig (Elt Ideal)) : FVec Ideal S4096x4096 .f32 :=
  Host.scatter scatter_S4096x4096_S4096x32x2_S4096x32_n_01_01_2 (fun _ b => b)
    (broadcastInDim S4096x4096 ![] bcast_S_S4096x4096 (constant S_ .f32 0x00000000#32))
    (entries (listedRow (res_main_v57 V0)) (listedCol (res_main_indices V0)))
    (broadcastInDim S4096x32 ![] bcast_S_S4096x32 (constant S_ .f32 0x3D000000#32))

open Classical in
/-- An entry of the graph. -/
theorem graph_apply (V0 : Valuation τ sig (Elt Ideal)) (r c : Fin 4096) :
    graph V0 (ix2 r c) = if ∃ k : Fin 32, listing V0 r ⟨k.val, by omega⟩ = c then Ideal.ofBits .f32 0x3D000000#32
      else Ideal.ofBits .f32 0x00000000#32 := by
  unfold graph
  rw [ix2_eq_valueIdx]
  refine (Cert.Scatters.listed scatter_S4096x4096_S4096x32x2_S4096x32_n_01_01_2 rfl rfl rfl _ _ _
    (Ideal.ofBits .f32 0x3D000000#32) (fun r k => listing V0 r ⟨k.val, by omega⟩) ?_ ?_ ?_ r c).trans ?_
  · intro i k
    rw [← ix3_eq_valueIdx, entries_row]
    refine listedRow_apply _ i ?_
    unfold res_main_v57
    pointwise
  · intro i k
    rw [← ix3_eq_valueIdx, entries_col]
    exact listedCol_apply _ i k _ (indices_apply V0 i k)
  · intro k
    rfl
  · rfl

end Cert.ReferenceIdeal.Value
-- ==== Proof.HostPart.lean ====
/- What the kernel's host operations leave for the grid: the features, their squared lengths, the rows of the second layer. -/
module

public import proofs.«01_k».proof.Proof.Gen.KernelIdeal.Frame
public import proofs.«01_k».proof.Proof.Reference
public import Idealize.ShloMosaic.Lib.Claim
public import Idealize.ShloMosaic.Lib.Pipeline.ValueKit

@[expose] public section

set_option maxRecDepth 16384

noncomputable section

namespace Cert.KernelIdeal.HostPart

open Cert.KernelIdeal Cert.KernelIdeal.Gen Idealize.ShloMosaic Idealize.ShloMosaic.TcCoe Idealize.SL.Sem

/-- The reference's contents at launch. -/
abbrev RefV : Type := Valuation Cert.ReferenceIdeal.τ Cert.ReferenceIdeal.sig (Elt Ideal)

variable (m : (ℓ : Loc nD τ sig) → Buf (Elt Ideal) ℓ) (c : Dev nD)

/-- The reference starts from the kernel's arguments. -/
structure Agrees (V0 : RefV) : Prop where
  h0 : V0 (Proc.devRef .tc Cert.ReferenceIdeal.main_arg0) = m ((c : Thread nD τ).loc main_arg0)
  h1 : V0 (Proc.devRef .tc Cert.ReferenceIdeal.main_arg1) = m ((c : Thread nD τ).loc main_arg1)
  h2 : V0 (Proc.devRef .tc Cert.ReferenceIdeal.main_arg2) = m ((c : Thread nD τ).loc main_arg2)
  h3 : V0 (Proc.devRef .tc Cert.ReferenceIdeal.main_arg3) = m ((c : Thread nD τ).loc main_arg3)
  h4 : V0 (Proc.devRef .tc Cert.ReferenceIdeal.main_arg4) = m ((c : Thread nD τ).loc main_arg4)
  h5 : V0 (Proc.devRef .tc Cert.ReferenceIdeal.main_arg5) = m ((c : Thread nD τ).loc main_arg5)
  h6 : V0 (Proc.devRef .tc Cert.ReferenceIdeal.main_arg6) = m ((c : Thread nD τ).loc main_arg6)
  h7 : V0 (Proc.devRef .tc Cert.ReferenceIdeal.main_arg7) = m ((c : Thread nD τ).loc main_arg7)

variable {m c} {V0 : RefV} (h : Agrees m c V0)

include h

/-- The features are the reference's. -/
theorem feats_eq : V m c main_v26 = Cert.ReferenceIdeal.Value.res_main_v26 V0 := by
  unfold Cert.ReferenceIdeal.Value.res_main_v26 Cert.ReferenceIdeal.Value.res_main_v8 Cert.ReferenceIdeal.Value.res_main_v6 Cert.ReferenceIdeal.Value.res_main_v2
  rw [h.h0, h.h1, h.h2, h.h3]
  unfold V
  after_results

/-- The squared lengths as a row. -/
theorem sq_row_eq : V m c main_v29 = shapeCast S1x4096 (show FVec Ideal S4096 .f32 from Cert.ReferenceIdeal.Value.res_main_v28 V0) shapeCasts_S4096_S1x4096 := by
  unfold Cert.ReferenceIdeal.Value.res_main_v28
  rw [← feats_eq h]
  unfold V
  after_results
  rfl

/-- The squared lengths as a column. -/
theorem sq_col_eq : V m c main_v30 = shapeCast S4096x1 (show FVec Ideal S4096 .f32 from Cert.ReferenceIdeal.Value.res_main_v28 V0) shapeCasts_S4096_S4096x1 := by
  unfold Cert.ReferenceIdeal.Value.res_main_v28
  rw [← feats_eq h]
  unfold V
  after_results
  rfl

/-- The second layer's bias as a row. -/
theorem bias_eq : V m c main_v31 = shapeCast S1x256 (show FVec Ideal S256 .f32 from V0 (Proc.devRef .tc Cert.ReferenceIdeal.main_arg5)) shapeCasts_S256_S1x256 := by
  rw [h.h5]
  unfold V
  after_results
  rfl

/-- The second layer norm's scale as a row. -/
theorem scale_eq : V m c main_v32 = shapeCast S1x256 (show FVec Ideal S256 .f32 from V0 (Proc.devRef .tc Cert.ReferenceIdeal.main_arg6)) shapeCasts_S256_S1x256 := by
  rw [h.h6]
  unfold V
  after_results
  rfl

/-- The second layer norm's shift as a row. -/
theorem shift_eq : V m c main_v33 = shapeCast S1x256 (show FVec Ideal S256 .f32 from V0 (Proc.devRef .tc Cert.ReferenceIdeal.main_arg7)) shapeCasts_S256_S1x256 := by
  rw [h.h7]
  unfold V
  after_results
  rfl

/-- The second layer's weights. -/
theorem weights_eq : V m c main_arg4 = V0 (Proc.devRef .tc Cert.ReferenceIdeal.main_arg4) := (V_main_arg4 m c).trans h.h4.symm

end Cert.KernelIdeal.HostPart
-- ==== Proof.Layer.lean ====
/- The second layer: a block of the kernel's is the reference's at the block's rows. -/
module

public import proofs.«01_k».proof.Proof.Blocks
public import proofs.«01_k».proof.Proof.RefGraph
public import proofs.«01_k».proof.Proof.HostPart

@[expose] public section

set_option maxRecDepth 16384

noncomputable section

namespace Cert.KernelIdeal.Layer

open Cert.KernelIdeal Cert.KernelIdeal.Gen Idealize.ShloMosaic Idealize.ShloMosaic.TcCoe Idealize.SL.Sem

/-- The reference's aggregated features times the weights, plus the bias. -/
def refPre (G : FVec Ideal Cert.ReferenceIdeal.S4096x4096 .f32) (f : FVec Ideal Cert.ReferenceIdeal.S4096x256 .f32)
    (w : FVec Ideal Cert.ReferenceIdeal.S256x256 .f32) (b : FVec Ideal Cert.ReferenceIdeal.S256 .f32) : FVec Ideal Cert.ReferenceIdeal.S4096x256 .f32 :=
  addf (Host.dotGeneral Cert.ReferenceIdeal.dot_S4096x256_S256x256_S4096x256_1_0_0_1_n_n none (Host.dotGeneral Cert.ReferenceIdeal.dot_S4096x4096_S4096x256_S4096x256_1_0_0_1_n_n none G f) (transpose Cert.ReferenceIdeal.S256x256 [1, 0] w Cert.ReferenceIdeal.Gen.transposes_S256x256_S256x256_1_0)) (broadcastInDim Cert.ReferenceIdeal.S4096x256 ![0, 1] Cert.ReferenceIdeal.Gen.bcast_S1x256_S4096x256_0_1 (broadcastInDim Cert.ReferenceIdeal.S1x256 ![1] Cert.ReferenceIdeal.Gen.bcast_S256_S1x256_1 b))

/-- The reference's row means of it. -/
def refMean (P : FVec Ideal Cert.ReferenceIdeal.S4096x256 .f32) : FVec Ideal Cert.ReferenceIdeal.S4096x1 .f32 :=
  Host.divf (broadcastInDim Cert.ReferenceIdeal.S4096x1 ![0] Cert.ReferenceIdeal.Gen.bcast_S4096_S4096x1_0 (Host.reduceAdd P (constant Cert.ReferenceIdeal.S_ .f32 0x00000000#32) Cert.ReferenceIdeal.Gen.reducesTo_S4096x256_S4096_d1 Cert.ReferenceIdeal.Gen.h_S_)) (broadcastInDim Cert.ReferenceIdeal.S4096x1 ![] Cert.ReferenceIdeal.Gen.bcast_S_S4096x1 (constant Cert.ReferenceIdeal.S_ .f32 0x43800000#32))

/-- The reference's rows with the mean taken off. -/
def refCentred (P : FVec Ideal Cert.ReferenceIdeal.S4096x256 .f32) : FVec Ideal Cert.ReferenceIdeal.S4096x256 .f32 :=
  subf P (broadcastInDim Cert.ReferenceIdeal.S4096x256 ![0, 1] Cert.ReferenceIdeal.Gen.bcast_S4096x1_S4096x256_0_1 (refMean P))

/-- The reference's layer norm. -/
def refNorm (P : FVec Ideal Cert.ReferenceIdeal.S4096x256 .f32) (s h : FVec Ideal Cert.ReferenceIdeal.S256 .f32) : FVec Ideal Cert.ReferenceIdeal.S4096x256 .f32 :=
  addf (mulf (Host.divf (subf P (broadcastInDim Cert.ReferenceIdeal.S4096x256 ![0, 1] Cert.ReferenceIdeal.Gen.bcast_S4096x1_S4096x256_0_1 (refMean P))) (broadcastInDim Cert.ReferenceIdeal.S4096x256 ![0, 1] Cert.ReferenceIdeal.Gen.bcast_S4096x1_S4096x256_0_1 (Host.sqrt (addf (Host.divf (broadcastInDim Cert.ReferenceIdeal.S4096x1 ![0] Cert.ReferenceIdeal.Gen.bcast_S4096_S4096x1_0 (Host.reduceAdd (mulf (refCentred P) (refCentred P)) (constant Cert.ReferenceIdeal.S_ .f32 0x00000000#32) Cert.ReferenceIdeal.Gen.reducesTo_S4096x256_S4096_d1 Cert.ReferenceIdeal.Gen.h_S_)) (broadcastInDim Cert.ReferenceIdeal.S4096x1 ![] Cert.ReferenceIdeal.Gen.bcast_S_S4096x1 (constant Cert.ReferenceIdeal.S_ .f32 0x43800000#32))) (broadcastInDim Cert.ReferenceIdeal.S4096x1 ![] Cert.ReferenceIdeal.Gen.bcast_S_S4096x1 (constant Cert.ReferenceIdeal.S_ .f32 0x3727C5AC#32)))))) (broadcastInDim Cert.ReferenceIdeal.S4096x256 ![0, 1] Cert.ReferenceIdeal.Gen.bcast_S1x256_S4096x256_0_1 (broadcastInDim Cert.ReferenceIdeal.S1x256 ![1] Cert.ReferenceIdeal.Gen.bcast_S256_S1x256_1 s))) (broadcastInDim Cert.ReferenceIdeal.S4096x256 ![0, 1] Cert.ReferenceIdeal.Gen.bcast_S1x256_S4096x256_0_1 (broadcastInDim Cert.ReferenceIdeal.S1x256 ![1] Cert.ReferenceIdeal.Gen.bcast_S256_S1x256_1 h))

/-- A row of the kernel's block is the reference's row that its graph row is. -/
theorem layer_apply (G' : FVec Ideal S512x4096 .f32) (G : FVec Ideal S4096x4096 .f32) (f : FVec Ideal S4096x256 .f32)
    (w : FVec Ideal S256x256 .f32) (b s h : FVec Ideal S256 .f32) (r : Fin 512) (R : Fin 4096)
    (hG : ∀ k : Fin 4096, (G' (ix2 r k) : EReal) = G (ix2 R k)) (c : Fin 256) :
    Rounds.layer G' f w (shapeCast S1x256 b shapeCasts_S256_S1x256) (shapeCast S1x256 s shapeCasts_S256_S1x256) (shapeCast S1x256 h shapeCasts_S256_S1x256) (ix2 r c)
      = refNorm (refPre G f w b) s h (ix2 R c) := by
  pointwise [Rounds.layer, k0_pay1, k0_pay2, k0_pay978, refNorm, refPre, refMean, refCentred]
  simp only [hG]

end Cert.KernelIdeal.Layer
-- ==== Proof.Distinct.lean ====
/- What the precondition says of the reference's distances: in every row, ordered ascending, the first 33 differ. -/
module

public import proofs.«01_k».proof.Proof.Reference
public import proofs.«01_k».proof.Proof.Gen.Pre_nearest_distinct

@[expose] public section

noncomputable section

namespace Cert.Distinct

open Idealize.ShloMosaic Idealize.SL.Sem Cert.ReferenceIdeal.Value

/-- The precondition of the reference's arguments, as a comparison of neighbours in the sorted distances. -/
def neighbours (x : FVec Ideal ⟨2, ![4096, 4096]⟩ .f32) : IVec ⟨2, ![4096, 32]⟩ 1 :=
  cmpf .olt
    (extractStridedSlice ⟨2, ![4096, 32]⟩ ![0, 0] (Host.sort ⟨2, ![4096, 4096]⟩ 1 (Cert.Pre_nearest_distinct.comparator_f32_d1 (F := Ideal)) x)
      Cert.Pre_nearest_distinct.Gen.slices_S4096x4096_S4096x32_0_0)
    (extractStridedSlice ⟨2, ![4096, 32]⟩ ![0, 1] (Host.sort ⟨2, ![4096, 4096]⟩ 1 (Cert.Pre_nearest_distinct.comparator_f32_d1 (F := Ideal)) x)
      Cert.Pre_nearest_distinct.Gen.slices_S4096x4096_S4096x32_0_1)

/-- The comparison that the precondition sorts by is "less". -/
theorem less_iff (x y : EReal) : Cert.Pre_nearest_distinct.comparator_f32_d1 (F := Ideal) x y = 1#1 ↔ x < y := by
  have h0 : Ideal.ofBits .f32 0x00000000#32 = 0 := by simp [Ideal.ofBits, Ideal.ieee]
  have hz : ∀ z : EReal, Scalar.select (BitVec.ofBool (decide (z ≠ z))) (Ideal.ofBits .f32 0x7FC00000#32)
      (Scalar.select (BitVec.ofBool (decide (z = Ideal.ofBits .f32 0x00000000#32))) (Ideal.ofBits .f32 0x00000000#32) z) = z := fun z => by
    by_cases h : z = 0 <;> simp [Scalar.select, h, h0]
  show BitVec.ofBool (decide ((Scalar.select (BitVec.ofBool (decide (x ≠ x))) (Ideal.ofBits .f32 0x7FC00000#32)
      (Scalar.select (BitVec.ofBool (decide (x = Ideal.ofBits .f32 0x00000000#32))) (Ideal.ofBits .f32 0x00000000#32) x)) < (Scalar.select (BitVec.ofBool (decide (y ≠ y))) (Ideal.ofBits .f32 0x7FC00000#32)
      (Scalar.select (BitVec.ofBool (decide (y = Ideal.ofBits .f32 0x00000000#32))) (Ideal.ofBits .f32 0x00000000#32) y)))) = 1#1 ↔ x < y
  rw [hz, hz]
  by_cases h : x < y <;> simp [h]

set_option maxRecDepth 8192 in
/-- The precondition's function of the reference's arguments. -/
theorem fn_eq (V0 : Valuation Cert.ReferenceIdeal.τ Cert.ReferenceIdeal.sig (Elt Ideal)) :
    Cert.Pre_nearest_distinct.fn (F := Ideal) (V0 (Proc.devRef .tc Cert.ReferenceIdeal.main_arg0))
      (V0 (Proc.devRef .tc Cert.ReferenceIdeal.main_arg1)) (V0 (Proc.devRef .tc Cert.ReferenceIdeal.main_arg2))
      (V0 (Proc.devRef .tc Cert.ReferenceIdeal.main_arg3)) (V0 (Proc.devRef .tc Cert.ReferenceIdeal.main_arg4))
      (V0 (Proc.devRef .tc Cert.ReferenceIdeal.main_arg5)) (V0 (Proc.devRef .tc Cert.ReferenceIdeal.main_arg6))
      (V0 (Proc.devRef .tc Cert.ReferenceIdeal.main_arg7)) = neighbours (distances V0) := rfl

/-- Neighbours that differ make a row strict as far as rank 32. -/
theorem strict_of (x : FVec Ideal ⟨2, ![4096, 4096]⟩ .f32) (h : neighbours x = fun _ => 1#1) (r : Fin 4096) :
    ∃ t, Cert.Select.Sorts (fun k => (x (ix2 r k) : EReal)) t ∧ Cert.Select.Strict (fun k => (x (ix2 r k) : EReal)) t := by
  refine ⟨_, Cert.Order.order_sorts _ less_iff _, fun t => ?_⟩
  have e := congrFun h (ix2 r t)
  have q := fun c => Cert.Order.sort_apply (Cert.Pre_nearest_distinct.comparator_f32_d1 (F := Ideal)) x r c
  refine lt_of_eq_of_lt (q _).symm (lt_of_lt_of_eq ?_ (q _))
  unfold neighbours at e
  clear q
  generalize Host.sort _ _ _ _ = s at e ⊢
  change (⟨2, ![4096, 4096]⟩ : Shape).Idx → EReal at s
  have e0 : extractStridedSlice ⟨2, ![4096, 32]⟩ ![0, 0] s Cert.Pre_nearest_distinct.Gen.slices_S4096x4096_S4096x32_0_0 (ix2 r t)
      = s (ix2 r ⟨t.val, by omega⟩) := by pointwise
  have e1 : extractStridedSlice ⟨2, ![4096, 32]⟩ ![0, 1] s Cert.Pre_nearest_distinct.Gen.slices_S4096x4096_S4096x32_0_1 (ix2 r t)
      = s (ix2 r ⟨t.val + 1, by omega⟩) := by
    pointwise
    exact congrArg (fun q => s (ix2 r q)) (Fin.ext (Nat.add_comm 1 t.val))
  rw [← e0, ← e1]
  change BitVec.ofBool (decide (_ < _)) = 1#1 at e
  by_contra hn
  rw [decide_eq_false hn] at e
  exact absurd e (by decide)

/-- The precondition makes every row of the reference's distances strict as far as rank 32. -/
theorem strict (V0 : Valuation Cert.ReferenceIdeal.τ Cert.ReferenceIdeal.sig (Elt Ideal)) (h : neighbours (distances V0) = fun _ => 1#1)
    (r : Fin 4096) :
    ∃ t, Cert.Select.Sorts (Cert.Graph.dist (feats V0) r) t ∧ Cert.Select.Strict (Cert.Graph.dist (feats V0) r) t := by
  have e : (fun k => (distances V0 (ix2 r k) : EReal)) = Cert.Graph.dist (feats V0) r := funext fun k => distances_apply V0 r k
  exact e ▸ strict_of _ h r

end Cert.Distinct
-- ==== Proof.DistBlock.lean ====
/- The distance block that one grid point computes, at an entry. -/
module

public import proofs.«01_k».proof.Proof.Gen.KernelIdeal.Skeleton
public import Idealize.ShloMosaic.Lib.Pointwise
public import Idealize.ShloMosaic.Lib.Routing.OpsPair

@[expose] public section

noncomputable section

namespace Cert.KernelIdeal.DistBlock

open Cert.KernelIdeal Cert.KernelIdeal.Gen Idealize.ShloMosaic
open Idealize.ShloMosaic.TcCoe Idealize.SL.Sem

/-- A block's row number against a column number, as words. -/
theorem diag_word (i : Fin 8) (r : Fin 512) (c : Fin 4096) :
    IntOp.cmpi .eq (BitVec.ofNat 32 c.val) (IntOp.addi (Scalar.muli (BitVec.ofNat 32 i.val) 512#32) (BitVec.ofNat 32 r.val))
      = BitVec.ofBool (decide (512 * i.val + r.val = c.val)) := by
  have h : (BitVec.ofNat 32 c.val = BitVec.ofNat 32 i.val * 512#32 + BitVec.ofNat 32 r.val) ↔ 512 * i.val + r.val = c.val := by
    rw [← BitVec.toNat_inj]
    simp only [BitVec.toNat_add, BitVec.toNat_mul, BitVec.toNat_ofNat]
    omega
  show BitVec.ofBool (BitVec.ofNat 32 c.val == BitVec.ofNat 32 i.val * 512#32 + BitVec.ofNat 32 r.val) = _
  rw [Bool.beq_eq_decide_eq]
  exact congrArg BitVec.ofBool (decide_eq_decide.mpr h)

/-- Entry `(r, c)` of the distance block of grid point `i`. -/
theorem block_apply (i : grid0.Coords) (v0 : Vec Ideal S4096x256 .f32) (v2 : Vec Ideal S512x256 .f32) (v6 : Vec Ideal S1x4096 .f32)
    (v8 : Vec Ideal S512x1 .f32) (r : Fin 512) (c : Fin 4096) :
    k0_pay3 (F := Ideal) i v0 v2 v6 v8 (ix2 r c) = if 512 * (i 0).val + r.val = c.val then (⊤ : EReal) else
      (show FVec Ideal S512x1 .f32 from v8) (ix2 r (0 : Fin 1)) + (show FVec Ideal S1x4096 .f32 from v6) (ix2 (0 : Fin 1) c)
        - Ideal.ofBits .f32 0x40000000#32 * ∑ k : Fin 256, (show FVec Ideal S512x256 .f32 from v2) (ix2 r k)
          * (show FVec Ideal S4096x256 .f32 from v0) (ix2 c k) := by
  unfold k0_pay3 k0_pay2
  change S4096x256.Idx → EReal at v0
  change S512x256.Idx → EReal at v2
  change S1x4096.Idx → EReal at v6
  change S512x1.Idx → EReal at v8
  pointwise
  have e : Named.named (F := Ideal) (φ := .f32) κ "diag" 2138095042#32 = (⊤ : EReal) := IdealRules.named_const.ideal_named_scalar κ "diag" _ _ rfl
  have h := diag_word (i 0) r c
  refine (congrArg₂ (fun b t => Scalar.select b (t : EReal) _) h e).trans ?_
  by_cases q : 512 * (i 0).val + r.val = c.val
  · rw [if_pos q, decide_eq_true q]
    rfl
  · rw [if_neg q, decide_eq_false q]
    rfl

end Cert.KernelIdeal.DistBlock
-- ==== Proof.Arrays.lean ====
/- The kernel's two output arrays after the run, as the reference's terms. -/
module

public import proofs.«01_k».proof.Proof.Layer
public import proofs.«01_k».proof.Proof.Distinct
public import proofs.«01_k».proof.Proof.DistBlock

@[expose] public section

set_option maxRecDepth 16384

noncomputable section

namespace Cert.KernelIdeal.Arrays

open Cert.KernelIdeal Cert.KernelIdeal.Gen Cert.KernelIdeal.HostPart Idealize.ShloMosaic Idealize.ShloMosaic.TcCoe Idealize.SL.Sem
open Idealize.ShloMosaic.Pipeline (Dat)

/-- Where each window's block sits at a grid point. -/
theorem idx : ∀ t : Fin cfg0.N, (grid0.coords t 0).val = t.val ∧ t.val < 8 ∧ win0_0.index t = ![0, 0] ∧ win0_1.index t = ![t.val, 0] ∧ win0_2.index t = ![0, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

/-- The distance block over the features and their squared lengths. -/
theorem block_dist (i : grid0.Coords) (v0 : FVec Ideal S4096x256 .f32) (v2 : FVec Ideal S512x256 .f32) (v6 : FVec Ideal S1x4096 .f32)
    (v8 : FVec Ideal S512x1 .f32) (r : Fin 512) (R k : Fin 4096) (f : Cert.Graph.Feats) (hR : 512 * (i 0).val + r.val = R.val)
    (h0 : v0 = f) (h1 : ∀ j : Fin 256, v2 (ix2 r j) = f (ix2 R j)) (h2 : v6 (ix2 0 k) = Cert.Graph.sqn f k)
    (h3 : v8 (ix2 r 0) = Cert.Graph.sqn f R) : k0_pay3 (F := Ideal) i v0 v2 v6 v8 (ix2 r k) = Cert.Graph.dist f R k := by
  refine (DistBlock.block_apply i _ _ _ _ r k).trans ?_
  subst h0
  unfold Cert.Graph.dist Cert.Graph.inner
  have q : (512 * (i 0).val + r.val = k.val) ↔ R = k := by
    rw [hR]
    exact (Fin.ext_iff (a := R) (b := k)).symm
  refine (if_congr q rfl rfl).trans ?_
  refine congrArg (fun x : EReal => if R = k then (⊤ : EReal) else x) ?_
  refine congrArg₂ (fun x y : EReal => x - Ideal.ofBits .f32 0x40000000#32 * y) (congrArg₂ (fun x y : EReal => x + y) h3 h2) ?_
  exact Finset.sum_congr rfl fun j _ => congrArg (fun x : EReal => x * _) (h1 j)

variable {m : (ℓ : Loc nD τ sig) → Buf (Elt Ideal) ℓ} {c : Dev nD} {V0 : RefV} (h : Agrees m c V0)

/-- The array row that row `r` of point `t`'s block is. -/
def row (t : Fin cfg0.N) (r : Fin 512) : Fin 4096 := ⟨512 * t.val + r.val, by have := (idx t).2.1; omega⟩

section

include h

/-- The whole features are every point's first block. -/
theorem blk0 (t : Fin cfg0.N) : (show FVec Ideal S4096x256 .f32 from iblk m c 0 t) = Cert.ReferenceIdeal.Value.res_main_v26 V0 := by
  refine Eq.trans ?_ (feats_eq h)
  blk_ext! [iblk, idx t]

/-- The point's rows of the features. -/
theorem blk1 (t : Fin cfg0.N) (r : Fin 512) (k : Fin 256) : (show FVec Ideal S512x256 .f32 from iblk m c 1 t) (ix2 r k) = (show FVec Ideal S4096x256 .f32 from Cert.ReferenceIdeal.Value.res_main_v26 V0) (ix2 (row t r) k) := by
  rw [← feats_eq h]
  blk_ext [iblk, idx t, row]

/-- The squared lengths as a row. -/
theorem blk2 (t : Fin cfg0.N) (k : Fin 4096) : (show FVec Ideal S1x4096 .f32 from iblk m c 2 t) (ix2 0 k) = (show FVec Ideal S4096 .f32 from Cert.ReferenceIdeal.Value.res_main_v28 V0) (ix1 k) := by
  have e : (show FVec Ideal S1x4096 .f32 from iblk m c 2 t) = V m c main_v29 := by blk_ext! [iblk, idx t]
  rw [e, sq_row_eq h]
  pointwise

/-- The point's rows of the squared lengths. -/
theorem blk3 (t : Fin cfg0.N) (r : Fin 512) : (show FVec Ideal S512x1 .f32 from iblk m c 3 t) (ix2 r 0) = (show FVec Ideal S4096 .f32 from Cert.ReferenceIdeal.Value.res_main_v28 V0) (ix1 (row t r)) := by
  have e : (show FVec Ideal S512x1 .f32 from iblk m c 3 t) (ix2 r 0) = (show FVec Ideal S4096x1 .f32 from V m c main_v30) (ix2 (row t r) 0) := by blk_ext [iblk, idx t, row]
  rw [e, sq_col_eq h]
  pointwise

/-- The second layer's weights. -/
theorem blk4 (t : Fin cfg0.N) : (show FVec Ideal S256x256 .f32 from iblk m c 4 t) = V0 (Proc.devRef .tc Cert.ReferenceIdeal.main_arg4) := by
  refine Eq.trans ?_ (weights_eq h)
  blk_ext! [iblk, idx t]

/-- The second layer's bias. -/
theorem blk5 (t : Fin cfg0.N) : (show FVec Ideal S1x256 .f32 from iblk m c 5 t) = shapeCast S1x256 (show FVec Ideal S256 .f32 from V0 (Proc.devRef .tc Cert.ReferenceIdeal.main_arg5)) shapeCasts_S256_S1x256 := by
  refine Eq.trans ?_ (bias_eq h)
  blk_ext! [iblk, idx t]

/-- The second layer norm's scale. -/
theorem blk6 (t : Fin cfg0.N) : (show FVec Ideal S1x256 .f32 from iblk m c 6 t) = shapeCast S1x256 (show FVec Ideal S256 .f32 from V0 (Proc.devRef .tc Cert.ReferenceIdeal.main_arg6)) shapeCasts_S256_S1x256 := by
  refine Eq.trans ?_ (scale_eq h)
  blk_ext! [iblk, idx t]

/-- The second layer norm's shift. -/
theorem blk7 (t : Fin cfg0.N) : (show FVec Ideal S1x256 .f32 from iblk m c 7 t) = shapeCast S1x256 (show FVec Ideal S256 .f32 from V0 (Proc.devRef .tc Cert.ReferenceIdeal.main_arg7)) shapeCasts_S256_S1x256 := by
  refine Eq.trans ?_ (shift_eq h)
  blk_ext! [iblk, idx t]

/-- The point's block of distances. -/
theorem dists_apply (t : Fin cfg0.N) (r : Fin 512) (k : Fin 4096) :
    k0_pay3 (F := Ideal) (grid0.coords t) (iblk m c 0 t) (iblk m c 1 t) (iblk m c 2 t) (iblk m c 3 t) (ix2 r k) =
      Cert.Graph.dist (Cert.ReferenceIdeal.Value.feats V0) (row t r) k :=
  block_dist (grid0.coords t) _ _ _ _ r (row t r) k _ (congrArg (fun n => 512 * n + r.val) (idx t).1) (blk0 h t) (blk1 h t r)
    ((blk2 h t k).trans (Cert.ReferenceIdeal.Value.sqn_apply V0 k)) ((blk3 h t r).trans (Cert.ReferenceIdeal.Value.sqn_apply V0 (row t r)))

/-- An entry of the point's block of the graph is the reference's. -/
theorem graph_row (hs : Cert.Distinct.neighbours (Cert.ReferenceIdeal.Value.distances V0) = fun _ => 1#1) (t : Fin cfg0.N) (r : Fin 512) (k : Fin 4096) :
    Rounds.joined (k0_pay3 (F := Ideal) (grid0.coords t) (iblk m c 0 t) (iblk m c 1 t) (iblk m c 2 t) (iblk m c 3 t)) (ix2 r k) =
      Cert.ReferenceIdeal.Value.graph V0 (ix2 (row t r) k) := by
  obtain ⟨τ, hτ, hst⟩ := Cert.Distinct.strict V0 hs (row t r)
  refine (Rounds.joined_apply _ r _ τ (dists_apply h t r) hτ hst k).trans ?_
  refine Eq.trans ?_ (Cert.ReferenceIdeal.Value.graph_apply V0 (row t r) k).symm
  classical
  refine (if_congr (hτ.least_iff hst (Cert.ReferenceIdeal.Value.listing_sorts V0 (row t r)) k) rfl rfl).trans ?_
  congr

omit h in
/-- Where entry `y` of point `t`'s block of the graph sits. -/
theorem graph_place (t : Fin cfg0.N) (y : S512x4096.Idx) : (win0_8.blk t).view.emb y = ix2 (row t ⟨(y 0).val, (y 0).isLt⟩) (⟨(y 1).val, (y 1).isLt⟩ : Fin 4096) := by
  blk_ext [iblk, idx t, row]

/-- An entry of point `t`'s block of the graph. -/
theorem graph_point (hs : Cert.Distinct.neighbours (Cert.ReferenceIdeal.Value.distances V0) = fun _ => 1#1) (t : Fin cfg0.N) (y : S512x4096.Idx) : (Rounds.joined (k0_pay3 (F := Ideal) (grid0.coords t) (iblk m c 0 t) (iblk m c 1 t) (iblk m c 2 t) (iblk m c 3 t))) y = Cert.ReferenceIdeal.Value.graph V0 (ix2 (row t ⟨(y 0).val, (y 0).isLt⟩) (⟨(y 1).val, (y 1).isLt⟩ : Fin 4096)) := by
  have q : y = ix2 (⟨(y 0).val, (y 0).isLt⟩ : Fin 512) (⟨(y 1).val, (y 1).isLt⟩ : Fin 4096) := by
    blk_ext
  refine (congrArg ((Rounds.joined (k0_pay3 (F := Ideal) (grid0.coords t) (iblk m c 0 t) (iblk m c 1 t) (iblk m c 2 t) (iblk m c 3 t)))) q).trans ?_
  exact graph_row h hs t _ _

set_option maxHeartbeats 1600000 in
/-- The array of the graph after the run. -/
theorem graph_final (hs : Cert.Distinct.neighbours (Cert.ReferenceIdeal.Value.distances V0) = fun _ => 1#1) :
    (dats m 0 c).arrAt 8 (cfgs 0).N = Cert.ReferenceIdeal.Value.graph V0 := by
  refine (dats m 0 c).arrAt_eq_of_covers 8 _ (by decide +kernel) fun t _ y => ?_
  blk_simp
  rw [after0_8]
  unfold outsAt0
  refine (congrFun (Rounds.graph_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t)) y).trans ?_
  exact (graph_point h hs t y).trans (congrArg (Cert.ReferenceIdeal.Value.graph V0) (graph_place t y)).symm

omit h in
/-- The second result of the reference's composed term. -/
def hidden (V0 : RefV) : FVec Ideal S4096x256 .f32 :=
  Layer.refNorm (Layer.refPre (Cert.ReferenceIdeal.Value.graph V0) (Cert.ReferenceIdeal.Value.res_main_v26 V0)
    (V0 (Proc.devRef .tc Cert.ReferenceIdeal.main_arg4)) (V0 (Proc.devRef .tc Cert.ReferenceIdeal.main_arg5)))
    (V0 (Proc.devRef .tc Cert.ReferenceIdeal.main_arg6)) (V0 (Proc.devRef .tc Cert.ReferenceIdeal.main_arg7))

omit h in
/-- Where entry `y` of point `t`'s block of the second layer sits. -/
theorem hidden_place (t : Fin cfg0.N) (y : S512x256.Idx) : (win0_9.blk t).view.emb y = ix2 (row t ⟨(y 0).val, (y 0).isLt⟩) (⟨(y 1).val, (y 1).isLt⟩ : Fin 256) := by
  blk_ext [iblk, idx t, row]

/-- An entry of point `t`'s block of the second layer. -/
theorem hidden_point (hs : Cert.Distinct.neighbours (Cert.ReferenceIdeal.Value.distances V0) = fun _ => 1#1) (t : Fin cfg0.N) (y : S512x256.Idx) : (Rounds.layer (Rounds.joined (k0_pay3 (F := Ideal) (grid0.coords t) (iblk m c 0 t) (iblk m c 1 t) (iblk m c 2 t) (iblk m c 3 t))) (iblk m c 0 t) (iblk m c 4 t) (iblk m c 5 t) (iblk m c 6 t) (iblk m c 7 t)) y = hidden V0 (ix2 (row t ⟨(y 0).val, (y 0).isLt⟩) (⟨(y 1).val, (y 1).isLt⟩ : Fin 256)) := by
  have q : y = ix2 (⟨(y 0).val, (y 0).isLt⟩ : Fin 512) (⟨(y 1).val, (y 1).isLt⟩ : Fin 256) := by
    blk_ext
  refine (congrArg ((Rounds.layer (Rounds.joined (k0_pay3 (F := Ideal) (grid0.coords t) (iblk m c 0 t) (iblk m c 1 t) (iblk m c 2 t) (iblk m c 3 t))) (iblk m c 0 t) (iblk m c 4 t) (iblk m c 5 t) (iblk m c 6 t) (iblk m c 7 t))) q).trans ?_
  refine Eq.trans ?_ (Layer.layer_apply _ _ _ _ _ _ _ _ _ (fun k => graph_row h hs t _ k) _)
  rw [← blk0 h t, ← blk4 h t, ← blk5 h t, ← blk6 h t, ← blk7 h t]

set_option maxHeartbeats 1600000 in
/-- The array of the second layer after the run. -/
theorem hidden_final (hs : Cert.Distinct.neighbours (Cert.ReferenceIdeal.Value.distances V0) = fun _ => 1#1) :
    (dats m 0 c).arrAt 9 (cfgs 0).N = hidden V0 := by
  refine (dats m 0 c).arrAt_eq_of_covers 9 _ (by decide +kernel) fun t _ y => ?_
  blk_simp
  rw [after0_9]
  unfold outsAt0
  refine (congrFun (Rounds.hidden_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t)) y).trans ?_
  exact (hidden_point h hs t y).trans (congrArg (hidden V0) (hidden_place t y)).symm

end

end Cert.KernelIdeal.Arrays
-- ==== Proof.Runs.lean ====
/- What the two programs leave: the same three results. -/
module

public import proofs.«01_k».proof.Proof.Arrays
public import proofs.«01_k».proof.Proof.Gen.KernelIdeal.Value

@[expose] public section

set_option maxRecDepth 16384

noncomputable section

namespace Cert.KernelIdeal.Runs

open Cert.KernelIdeal Cert.KernelIdeal.Gen Cert.KernelIdeal.HostPart Cert.KernelIdeal.Arrays Idealize.ShloMosaic Idealize.ShloMosaic.TcCoe Idealize.SL.Sem

/-- The reference leaves its features, its graph and its second layer, and its arguments as they were. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v26) = Cert.ReferenceIdeal.Value.res_main_v26 (StableHlo.launchContents m c)
      ∧ r.2.mem ((c.tc : Thread Cert.ReferenceIdeal.nD Cert.ReferenceIdeal.τ).loc Cert.ReferenceIdeal.main_v74) = Cert.ReferenceIdeal.Value.graph (StableHlo.launchContents m c)
      ∧ r.2.mem ((c.tc : Thread Cert.ReferenceIdeal.nD Cert.ReferenceIdeal.τ).loc Cert.ReferenceIdeal.main_v104) = Arrays.hidden (StableHlo.launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run _ _ _).mono (fun _ h c => ⟨(h c).1, (h c).2.1, (h c).2.2.1, (h c).2.2.2⟩) (Cert.ReferenceIdeal.Value.run m g)

variable (m : (ℓ : Loc nD τ sig) → Buf (Elt Ideal) ℓ) (g : Dev nD → PrngReg) (V0 : Dev nD → RefV)

/-- The kernel leaves the reference's features, graph and second layer, and its arguments as they were. -/
theorem kernel_run (hV : ∀ c, Agrees m c (V0 c)) (hs : ∀ c, Cert.Distinct.neighbours (Cert.ReferenceIdeal.Value.distances (V0 c)) = fun _ => 1#1) :
    θ_run (defs (F := Ideal)) (onTc (τ := τ) (main (F := Ideal))) ⟨m, fun _ => 0, g⟩ (fun r => ∀ c : Dev nD,
      r.2.mem ((c.tc : Thread nD τ).loc main_v26) = Cert.ReferenceIdeal.Value.res_main_v26 (V0 c)
      ∧ r.2.mem ((c.tc : Thread nD τ).loc main_v34_0) = Cert.ReferenceIdeal.Value.graph (V0 c)
      ∧ r.2.mem ((c.tc : Thread nD τ).loc main_v34_1) = Arrays.hidden (V0 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨((h c).1 0).trans (((dats m 0 c).arrAt_in 0 rfl _).trans ((A_eq m c 0).trans (feats_eq (hV c)))),
      (Value.post8 m r h c).trans (graph_final (hV c) (hs c)), (Value.post9 m r h c).trans (hidden_final (hV c) (hs c)),
      Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c⟩) (run_main m g)

end Cert.KernelIdeal.Runs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_nearest_distinct
public import proofs.«01_k».proof.Proof.Runs
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged and every counter ends at zero. -/
theorem reference_frame : Cert.quiescent_ReferenceIdeal (hReferenceIdeal := Cert.ReferenceIdeal.Gen.facts) :=
  fun m g _ => (θ_run (Cert.ReferenceIdeal.defs (F := Ideal)) _ _).mono (fun _ h => ⟨fun c => (h c).2.2.2, sem_eq_zero_of_no_sems rfl _⟩) (Cert.ReferenceIdeal.Value.run m g)

/-- The same where the nearest distances are distinct. -/
theorem reference_frame_distinct : Cert.quiescent_ReferenceIdeal_pre_nearest_distinct (hReferenceIdeal := Cert.ReferenceIdeal.Gen.facts)
    (hPre_nearest_distinct := Cert.Pre_nearest_distinct.Gen.facts) :=
  fun m g _ => (θ_run (Cert.ReferenceIdeal.defs (F := Ideal)) _ _).mono (fun _ h => ⟨fun c => (h c).2.2.2, sem_eq_zero_of_no_sems rfl _⟩) (Cert.ReferenceIdeal.Value.run m g)

/-- At the reals the kernel and the reference leave equal results. -/
theorem agree : Cert.algebraic_KernelIdeal_ReferenceIdeal (hKernelIdeal := Cert.KernelIdeal.Gen.facts)
    (hReferenceIdeal := Cert.ReferenceIdeal.Gen.facts) (hPre_nearest_distinct := Cert.Pre_nearest_distinct.Gen.facts) := by
  intro m g m' g' hpre h
  have hV : ∀ c : Dev Cert.KernelIdeal.nD, Cert.KernelIdeal.HostPart.Agrees m c (StableHlo.launchContents m' c) := fun c =>
    ⟨(h c).1, (h c).2.1, (h c).2.2.1, (h c).2.2.2.1, (h c).2.2.2.2.1, (h c).2.2.2.2.2.1, (h c).2.2.2.2.2.2.1, (h c).2.2.2.2.2.2.2⟩
  have hs : ∀ c : Dev Cert.KernelIdeal.nD, Cert.Distinct.neighbours (Cert.ReferenceIdeal.Value.distances (StableHlo.launchContents m' c)) = fun _ => 1#1 := by
    intro c
    rw [← Cert.Distinct.fn_eq, (hV c).h0, (hV c).h1, (hV c).h2, (hV c).h3, (hV c).h4, (hV c).h5, (hV c).h6, (hV c).h7]
    exact hpre c
  exact ⟨_, _, _, Cert.KernelIdeal.Runs.kernel_run m g (fun c => StableHlo.launchContents m' c) hV hs, Cert.KernelIdeal.Runs.reference_run m' g'⟩

/-- Every claim of the certificate. -/
theorem claim : Cert.Claim :=
  ⟨Cert.Kernel.Gen.facts, Cert.KernelIdeal.Gen.facts, Cert.ReferenceIdeal.Gen.facts, Cert.Pre_nearest_distinct.Gen.facts,
    fun m g _ => Cert.Kernel.Gen.frame m g, fun m g _ => Cert.Kernel.Gen.frame m g,
    fun m g _ => Cert.KernelIdeal.Gen.frame m g, reference_frame, reference_frame_distinct,
    ⟨IdealRules.named_const.statement _ _ _ _ _ rfl, IdealRules.named_const.statement _ _ _ _ _ rfl⟩, agree⟩

end Cert.Proof

end
